-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![4096, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x512 : Shape := ⟨2, ![512, 512]⟩
abbrev S256x512 : Shape := ⟨2, ![256, 512]⟩
abbrev S4 : Shape := ⟨1, ![4]⟩
abbrev S_ : Shape := ⟨0, ![]⟩
abbrev S1 : Shape := ⟨1, ![1]⟩
abbrev S64x512 : Shape := ⟨2, ![64, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_off1 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_11 : BitVec 32 := 512#32
  let v27 : BitVec 32 := Scalar.muli v2 c512_i32_11
  let v28 : Index := Scalar.indexCast v27
  let c0 : Index := 0#32
  ![v28.toNat, 0]
def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v36 : BitVec 32 := Scalar.muli v2 c16_i32_16
  let v37 : BitVec 32 := Scalar.addi c0_i32_17 v36
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_18 : BitVec 32 := 4#32
  let v38 : BitVec 32 := Scalar.muli v19 c4_i32_18
  let v39 : BitVec 32 := Scalar.addi v37 v38
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v40 : BitVec 32 := Scalar.muli v8 c1_i32_19
  let v41 : BitVec 32 := Scalar.addi v39 v40
  v41.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v42 : BitVec 32 := Scalar.muli v2 c16_i32_21
  let v43 : BitVec 32 := Scalar.addi c0_i32_22 v42
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.xori v5 c2_i32_8
  let c4_i32_23 : BitVec 32 := 4#32
  let v44 : BitVec 32 := Scalar.muli v20 c4_i32_23
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v46 : BitVec 32 := Scalar.muli v8 c1_i32_24
  let v47 : BitVec 32 := Scalar.addi v45 v46
  v47.toNat
def k0_dev3 (d0 : Dev nD) : Nat :=
  let c0_i32_27 : BitVec 32 := 0#32
  let c1_i32_14 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v35 : BitVec 32 := Scalar.subi c1_i32_14 v2
  let c16_i32_26 : BitVec 32 := 16#32
  let v48 : BitVec 32 := Scalar.muli v35 c16_i32_26
  let v49 : BitVec 32 := Scalar.addi c0_i32_27 v48
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_28 : BitVec 32 := 4#32
  let v50 : BitVec 32 := Scalar.muli v5 c4_i32_28
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v52 : BitVec 32 := Scalar.muli v8 c1_i32_29
  let v53 : BitVec 32 := Scalar.addi v51 v52
  v53.toNat
def k0_off2 (d0 : Dev nD) (c0_i32_32 : BitVec 32) : Fin 2 → Nat :=
  let c1_i32_30 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v54 : BitVec 32 := Scalar.subi c1_i32_30 v18
  let c256_i32_31 : BitVec 32 := 256#32
  let v55 : BitVec 32 := Scalar.muli v54 c256_i32_31
  let v56 : BitVec 32 := Scalar.addi v55 c0_i32_32
  let c0_i32_41 : BitVec 32 := 0#32
  ![v56.toNat, 0]
def k0_dev4 (d0 : Dev nD) : Nat :=
  let c0_i32_36 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_35 : BitVec 32 := 16#32
  let v57 : BitVec 32 := Scalar.muli v2 c16_i32_35
  let v58 : BitVec 32 := Scalar.addi c0_i32_36 v57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_37 : BitVec 32 := 4#32
  let v59 : BitVec 32 := Scalar.muli v19 c4_i32_37
  let v60 : BitVec 32 := Scalar.addi v58 v59
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_38 : BitVec 32 := 1#32
  let v61 : BitVec 32 := Scalar.muli v8 c1_i32_38
  let v62 : BitVec 32 := Scalar.addi v60 v61
  v62.toNat
def k0_dev5 (d0 : Dev nD) : Nat :=
  let c0_i32_47 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_46 : BitVec 32 := 16#32
  let v72 : BitVec 32 := Scalar.muli v2 c16_i32_46
  let v73 : BitVec 32 := Scalar.addi c0_i32_47 v72
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_48 : BitVec 32 := 4#32
  let v74 : BitVec 32 := Scalar.muli v19 c4_i32_48
  let v75 : BitVec 32 := Scalar.addi v73 v74
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_49 : BitVec 32 := 1#32
  let v76 : BitVec 32 := Scalar.muli v8 c1_i32_49
  let v77 : BitVec 32 := Scalar.addi v75 v76
  v77.toNat
def k0_dev6 (d0 : Dev nD) : Nat :=
  let c0_i32_58 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_57 : BitVec 32 := 16#32
  let v87 : BitVec 32 := Scalar.muli v2 c16_i32_57
  let v88 : BitVec 32 := Scalar.addi c0_i32_58 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_59 : BitVec 32 := 4#32
  let v89 : BitVec 32 := Scalar.muli v19 c4_i32_59
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v91 : BitVec 32 := Scalar.muli v8 c1_i32_60
  let v92 : BitVec 32 := Scalar.addi v90 v91
  v92.toNat
def k0_dev7 (d0 : Dev nD) : Nat :=
  let c0_i32_69 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_68 : BitVec 32 := 16#32
  let v102 : BitVec 32 := Scalar.muli v2 c16_i32_68
  let v103 : BitVec 32 := Scalar.addi c0_i32_69 v102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_70 : BitVec 32 := 4#32
  let v104 : BitVec 32 := Scalar.muli v19 c4_i32_70
  let v105 : BitVec 32 := Scalar.addi v103 v104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v106 : BitVec 32 := Scalar.muli v8 c1_i32_71
  let v107 : BitVec 32 := Scalar.addi v105 v106
  v107.toNat
def k0_off3 (d0 : Dev nD) (c0_i32_88 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32_87 : BitVec 32 := 256#32
  let v127 : BitVec 32 := Scalar.muli v18 c256_i32_87
  let v128 : BitVec 32 := Scalar.addi v127 c0_i32_88
  let v129 : Index := Scalar.indexCast v128
  let c0_89 : Index := 0#32
  ![v129.toNat, 0]
def k0_dev8 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_96 : BitVec 32 := 16#32
  let v139 : BitVec 32 := Scalar.muli v2 c16_i32_96
  let v140 : BitVec 32 := Scalar.addi c0_i32_97 v139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.xori v5 c2_i32_8
  let c4_i32_98 : BitVec 32 := 4#32
  let v141 : BitVec 32 := Scalar.muli v20 c4_i32_98
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v143 : BitVec 32 := Scalar.muli v8 c1_i32_99
  let v144 : BitVec 32 := Scalar.addi v142 v143
  v144.toNat
def k0_dev9 (d0 : Dev nD) : Nat :=
  let c0_i32_125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_124 : BitVec 32 := 16#32
  let v176 : BitVec 32 := Scalar.muli v2 c16_i32_124
  let v177 : BitVec 32 := Scalar.addi c0_i32_125 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.xori v5 c2_i32_8
  let c4_i32_126 : BitVec 32 := 4#32
  let v178 : BitVec 32 := Scalar.muli v20 c4_i32_126
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_127 : BitVec 32 := 1#32
  let v180 : BitVec 32 := Scalar.muli v8 c1_i32_127
  let v181 : BitVec 32 := Scalar.addi v179 v180
  v181.toNat
def k0_dev10 (d0 : Dev nD) : Nat :=
  let c0_i32_153 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_152 : BitVec 32 := 16#32
  let v213 : BitVec 32 := Scalar.muli v2 c16_i32_152
  let v214 : BitVec 32 := Scalar.addi c0_i32_153 v213
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.xori v5 c2_i32_8
  let c4_i32_154 : BitVec 32 := 4#32
  let v215 : BitVec 32 := Scalar.muli v20 c4_i32_154
  let v216 : BitVec 32 := Scalar.addi v214 v215
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_155 : BitVec 32 := 1#32
  let v217 : BitVec 32 := Scalar.muli v8 c1_i32_155
  let v218 : BitVec 32 := Scalar.addi v216 v217
  v218.toNat
def k0_dev11 (d0 : Dev nD) : Nat :=
  let c0_i32_181 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_180 : BitVec 32 := 16#32
  let v250 : BitVec 32 := Scalar.muli v2 c16_i32_180
  let v251 : BitVec 32 := Scalar.addi c0_i32_181 v250
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 32 := Scalar.xori v5 c2_i32_8
  let c4_i32_182 : BitVec 32 := 4#32
  let v252 : BitVec 32 := Scalar.muli v20 c4_i32_182
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_183 : BitVec 32 := 1#32
  let v254 : BitVec 32 := Scalar.muli v8 c1_i32_183
  let v255 : BitVec 32 := Scalar.addi v253 v254
  v255.toNat
def k0_off4 (d0 : Dev nD) (c0_i32_202 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v21 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32 : BitVec 32 := 256#32
  let v22 : BitVec 32 := Scalar.muli v18 c256_i32
  let v23 : BitVec 32 := Scalar.addi v21 v22
  let v278 : BitVec 32 := Scalar.addi v23 c0_i32_202
  let v279 : Index := Scalar.indexCast v278
  let c0_203 : Index := 0#32
  ![v279.toNat, 0]
def k0_off5 (d0 : Dev nD) (c0_i32_205 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v21 : BitVec 32 := Scalar.muli v2 c512_i32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c256_i32 : BitVec 32 := 256#32
  let v22 : BitVec 32 := Scalar.muli v18 c256_i32
  let v23 : BitVec 32 := Scalar.addi v21 v22
  let v282 : BitVec 32 := Scalar.addi v23 c0_i32_205
  let c0_i32_212 : BitVec 32 := 0#32
  ![v282.toNat, 0]
def k0_dev12 (d0 : Dev nD) : Nat :=
  let c0_i32_209 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_208 : BitVec 32 := 16#32
  let v283 : BitVec 32 := Scalar.muli v2 c16_i32_208
  let v284 : BitVec 32 := Scalar.addi c0_i32_209 v283
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_210 : BitVec 32 := 4#32
  let v285 : BitVec 32 := Scalar.muli v19 c4_i32_210
  let v286 : BitVec 32 := Scalar.addi v284 v285
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v287 : BitVec 32 := Scalar.muli v8 c1_i32_211
  let v288 : BitVec 32 := Scalar.addi v286 v287
  v288.toNat
def k0_dev13 (d0 : Dev nD) : Nat :=
  let c0_i32_220 : BitVec 32 := 0#32
  let c1_i32_216 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v297 : BitVec 32 := Scalar.subi c1_i32_216 v2
  let c16_i32_219 : BitVec 32 := 16#32
  let v298 : BitVec 32 := Scalar.muli v297 c16_i32_219
  let v299 : BitVec 32 := Scalar.addi c0_i32_220 v298
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_221 : BitVec 32 := 4#32
  let v300 : BitVec 32 := Scalar.muli v5 c4_i32_221
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v302 : BitVec 32 := Scalar.muli v8 c1_i32_222
  let v303 : BitVec 32 := Scalar.addi v301 v302
  v303.toNat
def k0_dev14 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_245 : BitVec 32 := 16#32
  let v331 : BitVec 32 := Scalar.muli v2 c16_i32_245
  let v332 : BitVec 32 := Scalar.addi c0_i32_246 v331
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_247 : BitVec 32 := 4#32
  let v333 : BitVec 32 := Scalar.muli v19 c4_i32_247
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_248 : BitVec 32 := 1#32
  let v335 : BitVec 32 := Scalar.muli v8 c1_i32_248
  let v336 : BitVec 32 := Scalar.addi v334 v335
  v336.toNat
def k0_dev15 (d0 : Dev nD) : Nat :=
  let c0_i32_257 : BitVec 32 := 0#32
  let c1_i32_253 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v345 : BitVec 32 := Scalar.subi c1_i32_253 v2
  let c16_i32_256 : BitVec 32 := 16#32
  let v346 : BitVec 32 := Scalar.muli v345 c16_i32_256
  let v347 : BitVec 32 := Scalar.addi c0_i32_257 v346
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_258 : BitVec 32 := 4#32
  let v348 : BitVec 32 := Scalar.muli v5 c4_i32_258
  let v349 : BitVec 32 := Scalar.addi v347 v348
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v350 : BitVec 32 := Scalar.muli v8 c1_i32_259
  let v351 : BitVec 32 := Scalar.addi v349 v350
  v351.toNat
def k0_dev16 (d0 : Dev nD) : Nat :=
  let c0_i32_283 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_282 : BitVec 32 := 16#32
  let v379 : BitVec 32 := Scalar.muli v2 c16_i32_282
  let v380 : BitVec 32 := Scalar.addi c0_i32_283 v379
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_284 : BitVec 32 := 4#32
  let v381 : BitVec 32 := Scalar.muli v19 c4_i32_284
  let v382 : BitVec 32 := Scalar.addi v380 v381
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_285 : BitVec 32 := 1#32
  let v383 : BitVec 32 := Scalar.muli v8 c1_i32_285
  let v384 : BitVec 32 := Scalar.addi v382 v383
  v384.toNat
def k0_dev17 (d0 : Dev nD) : Nat :=
  let c0_i32_294 : BitVec 32 := 0#32
  let c1_i32_290 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v393 : BitVec 32 := Scalar.subi c1_i32_290 v2
  let c16_i32_293 : BitVec 32 := 16#32
  let v394 : BitVec 32 := Scalar.muli v393 c16_i32_293
  let v395 : BitVec 32 := Scalar.addi c0_i32_294 v394
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_295 : BitVec 32 := 4#32
  let v396 : BitVec 32 := Scalar.muli v5 c4_i32_295
  let v397 : BitVec 32 := Scalar.addi v395 v396
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v398 : BitVec 32 := Scalar.muli v8 c1_i32_296
  let v399 : BitVec 32 := Scalar.addi v397 v398
  v399.toNat
def k0_dev18 (d0 : Dev nD) : Nat :=
  let c0_i32_320 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_319 : BitVec 32 := 16#32
  let v427 : BitVec 32 := Scalar.muli v2 c16_i32_319
  let v428 : BitVec 32 := Scalar.addi c0_i32_320 v427
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_7 : BitVec 32 := 1#32
  let v19 : BitVec 32 := Scalar.xori v5 c1_i32_7
  let c4_i32_321 : BitVec 32 := 4#32
  let v429 : BitVec 32 := Scalar.muli v19 c4_i32_321
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_322 : BitVec 32 := 1#32
  let v431 : BitVec 32 := Scalar.muli v8 c1_i32_322
  let v432 : BitVec 32 := Scalar.addi v430 v431
  v432.toNat
def k0_dev19 (d0 : Dev nD) : Nat :=
  let c0_i32_331 : BitVec 32 := 0#32
  let c1_i32_327 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v441 : BitVec 32 := Scalar.subi c1_i32_327 v2
  let c16_i32_330 : BitVec 32 := 16#32
  let v442 : BitVec 32 := Scalar.muli v441 c16_i32_330
  let v443 : BitVec 32 := Scalar.addi c0_i32_331 v442
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v444 : BitVec 32 := Scalar.muli v5 c4_i32_332
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_333 : BitVec 32 := 1#32
  let v446 : BitVec 32 := Scalar.muli v8 c1_i32_333
  let v447 : BitVec 32 := Scalar.addi v445 v446
  v447.toNat
def k0_off6 (d0 : Dev nD) (c0_i32_347 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32 : BitVec 32 := 512#32
  let v21 : BitVec 32 := Scalar.muli v2 c512_i32
  let c1_i32_9 : BitVec 32 := 1#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_2 : BitVec 32 := 2#32
  let c0_i32 : BitVec 32 := 0#32
  let v9 : BitVec 1 := Scalar.cmpi .eq c2_i32_2 c0_i32
  let c1_i32_3 : BitVec 32 := 1#32
  let v10 : BitVec 32 := Scalar.select v9 c1_i32_3 c2_i32_2
  let v11 : BitVec 32 := Scalar.remsi v5 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v24 : BitVec 32 := Scalar.subi c1_i32_9 v18
  let c256_i32_10 : BitVec 32 := 256#32
  let v25 : BitVec 32 := Scalar.muli v24 c256_i32_10
  let v26 : BitVec 32 := Scalar.addi v21 v25
  let v467 : BitVec 32 := Scalar.addi v26 c0_i32_347
  let c0_i32_355 : BitVec 32 := 0#32
  ![v467.toNat, 0]
def k0_dev20 (d0 : Dev nD) : Nat :=
  let c0_i32_352 : BitVec 32 := 0#32
  let c1_i32_348 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v468 : BitVec 32 := Scalar.subi c1_i32_348 v2
  let c16_i32_351 : BitVec 32 := 16#32
  let v469 : BitVec 32 := Scalar.muli v468 c16_i32_351
  let v470 : BitVec 32 := Scalar.addi c0_i32_352 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_353 : BitVec 32 := 4#32
  let v471 : BitVec 32 := Scalar.muli v5 c4_i32_353
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_354 : BitVec 32 := 1#32
  let v473 : BitVec 32 := Scalar.muli v8 c1_i32_354
  let v474 : BitVec 32 := Scalar.addi v472 v473
  v474.toNat
def k0_dev21 (d0 : Dev nD) : Nat :=
  let c0_i32_373 : BitVec 32 := 0#32
  let c1_i32_369 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v495 : BitVec 32 := Scalar.subi c1_i32_369 v2
  let c16_i32_372 : BitVec 32 := 16#32
  let v496 : BitVec 32 := Scalar.muli v495 c16_i32_372
  let v497 : BitVec 32 := Scalar.addi c0_i32_373 v496
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_374 : BitVec 32 := 4#32
  let v498 : BitVec 32 := Scalar.muli v5 c4_i32_374
  let v499 : BitVec 32 := Scalar.addi v497 v498
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v500 : BitVec 32 := Scalar.muli v8 c1_i32_375
  let v501 : BitVec 32 := Scalar.addi v499 v500
  v501.toNat
def k0_dev22 (d0 : Dev nD) : Nat :=
  let c0_i32_394 : BitVec 32 := 0#32
  let c1_i32_390 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v522 : BitVec 32 := Scalar.subi c1_i32_390 v2
  let c16_i32_393 : BitVec 32 := 16#32
  let v523 : BitVec 32 := Scalar.muli v522 c16_i32_393
  let v524 : BitVec 32 := Scalar.addi c0_i32_394 v523
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_395 : BitVec 32 := 4#32
  let v525 : BitVec 32 := Scalar.muli v5 c4_i32_395
  let v526 : BitVec 32 := Scalar.addi v524 v525
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_396 : BitVec 32 := 1#32
  let v527 : BitVec 32 := Scalar.muli v8 c1_i32_396
  let v528 : BitVec 32 := Scalar.addi v526 v527
  v528.toNat
def k0_dev23 (d0 : Dev nD) : Nat :=
  let c0_i32_415 : BitVec 32 := 0#32
  let c1_i32_411 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v549 : BitVec 32 := Scalar.subi c1_i32_411 v2
  let c16_i32_414 : BitVec 32 := 16#32
  let v550 : BitVec 32 := Scalar.muli v549 c16_i32_414
  let v551 : BitVec 32 := Scalar.addi c0_i32_415 v550
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_416 : BitVec 32 := 4#32
  let v552 : BitVec 32 := Scalar.muli v5 c4_i32_416
  let v553 : BitVec 32 := Scalar.addi v551 v552
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_417 : BitVec 32 := 1#32
  let v554 : BitVec 32 := Scalar.muli v8 c1_i32_417
  let v555 : BitVec 32 := Scalar.addi v553 v554
  v555.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x512 : Shape := ⟨2, ![4096, 512]⟩
abbrev S4x1024x512 : Shape := ⟨3, ![4, 1024, 512]⟩
abbrev S_ : Shape := ⟨0, ![]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4x1024x512, .bf16⟩
  | .hbm, ⟨2, _⟩ => ⟨S4x1024x512, .f32⟩
  | .hbm, ⟨3, _⟩ => ⟨S_, .f32⟩
  | .hbm, ⟨4, _⟩ => ⟨S1024x512, .f32⟩
  | .hbm, ⟨5, _⟩ => ⟨S1024x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.KernelIdealMesh.lean ====
/- The mesh of the kernel and what its buffers hold.

   The 32 devices are numbered 16·x + 4·y + z. A device exchanges with three others: its
   pair (y with the low bit changed), its cross (y with the high bit changed) and the
   device at the other x. Every offset of the body is a multiple of 64 rows; here each
   is brought to the form 64·t, and each destination to one of the three maps. Then the
   contents: what each buffer holds once it is filled, as one function per device. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI

variable {F : FTy → Type} [FloatOps F]

/-! ## The three partners -/

/-- The device whose y differs in the low bit. -/
def pair (c : Dev nD) : Dev nD := ⟨c.val ^^^ 4, by revert c; decide +kernel⟩
/-- The device whose y differs in the high bit. -/
def cross (c : Dev nD) : Dev nD := ⟨c.val ^^^ 8, by revert c; decide +kernel⟩
/-- The device at the other x. -/
def xp (c : Dev nD) : Dev nD := ⟨c.val ^^^ 16, by revert c; decide +kernel⟩

/-- Which half of the result's rows the device reduces: its x. -/
def half (c : Dev nD) : ℕ := c.val / 16
/-- Which quarter of that half: the low bit of its y. -/
def part (c : Dev nD) : ℕ := c.val / 4 % 2

theorem pair_pair : ∀ c, pair (pair c) = c := by decide +kernel
theorem cross_cross : ∀ c, cross (cross c) = c := by decide +kernel
theorem xp_xp : ∀ c, xp (xp c) = c := by decide +kernel

theorem half_lt (c : Dev nD) : half c < 2 := by revert c; decide +kernel
theorem part_lt (c : Dev nD) : part c < 2 := by revert c; decide +kernel
theorem half_pair : ∀ c, half (pair c) = half c := by decide +kernel
theorem part_pair : ∀ c, part (pair c) = 1 - part c := by decide +kernel
theorem half_cross : ∀ c, half (cross c) = half c := by decide +kernel
theorem part_cross : ∀ c, part (cross c) = part c := by decide +kernel
theorem half_xp : ∀ c, half (xp c) = 1 - half c := by decide +kernel
theorem part_xp : ∀ c, part (xp c) = part c := by decide +kernel

/-! ## Blocks of 64 rows -/

/-- The block of the half's rows that slice `s` of the device's own quarter is. -/
def ownT (c : Dev nD) (s : Fin 4) : ℕ := 4 * part c + s.val
/-- The same slice of the other quarter, which the pair reduces. -/
def othT (c : Dev nD) (s : Fin 4) : ℕ := 4 * (1 - part c) + s.val
/-- The block of the result that the device computes in slice `s`. -/
def finT (c : Dev nD) (s : Fin 4) : ℕ := 8 * half c + ownT c s
/-- The block of the result that the pair computes in slice `s`. -/
def ofinT (c : Dev nD) (s : Fin 4) : ℕ := 8 * half c + othT c s

theorem ownT_lt (c : Dev nD) (s : Fin 4) : ownT c s < 8 := by have := part_lt c; unfold ownT; omega
theorem othT_lt (c : Dev nD) (s : Fin 4) : othT c s < 8 := by unfold othT; omega
theorem finT_lt (c : Dev nD) (s : Fin 4) : finT c s < 16 := by
  have := half_lt c; have := ownT_lt c s; unfold finT; omega
theorem ofinT_lt (c : Dev nD) (s : Fin 4) : ofinT c s < 16 := by
  have := half_lt c; have := othT_lt c s; unfold ofinT; omega

theorem finT_pair : ∀ c s, finT (pair c) s = ofinT c s := by decide +kernel
theorem ofinT_pair : ∀ c s, ofinT (pair c) s = finT c s := by decide +kernel

/-- The device, at the y bits and z of `c`, that computes block `t` of the result. -/
def owner (c : Dev nD) (t : ℕ) : Dev nD :=
  ⟨16 * (t / 8 % 2) + 8 * (c.val / 8 % 2) + 4 * (t / 4 % 2) + c.val % 4, by have : nD = 32 := rfl; omega⟩

theorem owner_finT : ∀ c s, owner c (finT c s) = c := by decide +kernel
theorem owner_pair_finT : ∀ c s, owner (pair c) (finT c s) = c := by decide +kernel
theorem owner_xp_finT : ∀ c s, owner (xp c) (finT c s) = c := by decide +kernel
theorem owner_ofinT : ∀ c s, owner c (ofinT c s) = pair c := by decide +kernel
theorem owner_xp_ofinT : ∀ c s, owner (xp c) (ofinT c s) = pair c := by decide +kernel

/-! ## The body's destinations and offsets -/

theorem dev1_eq : ∀ c : Dev nD, (⟨k0_dev1 c, k0_dev1_lt c⟩ : Dev nD) = pair c := by decide +kernel
theorem dev2_eq : ∀ c : Dev nD, (⟨k0_dev2 c, k0_dev2_lt c⟩ : Dev nD) = cross c := by decide +kernel
theorem dev3_eq : ∀ c : Dev nD, (⟨k0_dev3 c, k0_dev3_lt c⟩ : Dev nD) = xp c := by decide +kernel
theorem dev4_eq : ∀ c : Dev nD, (⟨k0_dev4 c, k0_dev4_lt c⟩ : Dev nD) = pair c := by decide +kernel
theorem dev5_eq : ∀ c : Dev nD, (⟨k0_dev5 c, k0_dev5_lt c⟩ : Dev nD) = pair c := by decide +kernel
theorem dev6_eq : ∀ c : Dev nD, (⟨k0_dev6 c, k0_dev6_lt c⟩ : Dev nD) = pair c := by decide +kernel
theorem dev7_eq : ∀ c : Dev nD, (⟨k0_dev7 c, k0_dev7_lt c⟩ : Dev nD) = pair c := by decide +kernel
theorem dev8_eq : ∀ c : Dev nD, (⟨k0_dev8 c, k0_dev8_lt c⟩ : Dev nD) = cross c := by decide +kernel
theorem dev9_eq : ∀ c : Dev nD, (⟨k0_dev9 c, k0_dev9_lt c⟩ : Dev nD) = cross c := by decide +kernel
theorem dev10_eq : ∀ c : Dev nD, (⟨k0_dev10 c, k0_dev10_lt c⟩ : Dev nD) = cross c := by decide +kernel
theorem dev11_eq : ∀ c : Dev nD, (⟨k0_dev11 c, k0_dev11_lt c⟩ : Dev nD) = cross c := by decide +kernel
theorem dev12_eq : ∀ c : Dev nD, (⟨k0_dev12 c, k0_dev12_lt c⟩ : Dev nD) = pair c := by decide +kernel
theorem dev13_eq : ∀ c : Dev nD, (⟨k0_dev13 c, k0_dev13_lt c⟩ : Dev nD) = xp c := by decide +kernel
theorem dev14_eq : ∀ c : Dev nD, (⟨k0_dev14 c, k0_dev14_lt c⟩ : Dev nD) = pair c := by decide +kernel
theorem dev15_eq : ∀ c : Dev nD, (⟨k0_dev15 c, k0_dev15_lt c⟩ : Dev nD) = xp c := by decide +kernel
theorem dev16_eq : ∀ c : Dev nD, (⟨k0_dev16 c, k0_dev16_lt c⟩ : Dev nD) = pair c := by decide +kernel
theorem dev17_eq : ∀ c : Dev nD, (⟨k0_dev17 c, k0_dev17_lt c⟩ : Dev nD) = xp c := by decide +kernel
theorem dev18_eq : ∀ c : Dev nD, (⟨k0_dev18 c, k0_dev18_lt c⟩ : Dev nD) = pair c := by decide +kernel
theorem dev19_eq : ∀ c : Dev nD, (⟨k0_dev19 c, k0_dev19_lt c⟩ : Dev nD) = xp c := by decide +kernel
theorem dev20_eq : ∀ c : Dev nD, (⟨k0_dev20 c, k0_dev20_lt c⟩ : Dev nD) = xp c := by decide +kernel
theorem dev21_eq : ∀ c : Dev nD, (⟨k0_dev21 c, k0_dev21_lt c⟩ : Dev nD) = xp c := by decide +kernel
theorem dev22_eq : ∀ c : Dev nD, (⟨k0_dev22 c, k0_dev22_lt c⟩ : Dev nD) = xp c := by decide +kernel
theorem dev23_eq : ∀ c : Dev nD, (⟨k0_dev23 c, k0_dev23_lt c⟩ : Dev nD) = xp c := by decide +kernel

/-- The word slice `s` is addressed by. -/
def sw (s : Fin 4) : BitVec 32 := BitVec.ofNat 32 (64 * s.val)

theorem off1_eq' : ∀ c : Dev nD, k0_off1 c = ![512 * half c, 0] := by decide +kernel
theorem off2_eq : ∀ (c : Dev nD) (s : Fin 4), k0_off2 c (sw s) = ![64 * othT c s, 0] := by decide +kernel
theorem off3_eq : ∀ (c : Dev nD) (s : Fin 4), k0_off3 c (sw s) = ![64 * ownT c s, 0] := by decide +kernel
theorem off4_eq : ∀ (c : Dev nD) (s : Fin 4), k0_off4 c (sw s) = ![64 * finT c s, 0] := by decide +kernel
theorem off5_eq : ∀ (c : Dev nD) (s : Fin 4), k0_off5 c (sw s) = ![64 * finT c s, 0] := by decide +kernel
theorem off6_eq : ∀ (c : Dev nD) (s : Fin 4), k0_off6 c (sw s) = ![64 * ofinT c s, 0] := by decide +kernel

end Cert.KernelIdeal.Hand

end
-- ==== Proof.KernelIdealSched.lean ====
/- What the buffers hold, and the schedule of the copies.

   The kernel reduces in two exchanges and distributes in two more. Each device keeps one
   half of the rows of its argument (the half of its x) in a buffer `xb`.
     A. It sends the pair's quarter of that half to the pair, and adds what the pair sent
        to its own quarter: the sums `PS`.
     B. It sends `PS` to its cross and adds the cross's: the sums `FN`, over all four y.
     C. It sends `FN` to its pair, and to the device at the other x.
     D. What its pair sent in C it forwards to the device at the other x.
   Every exchange goes in four slices of 64 rows, with one semaphore per slice at either
   end. Here: the contents as functions of the devices' arguments; the pieces of the
   buffers, a block of 64 rows each; the semaphores; and what each landing hands over. -/
module

public import proofs.«01_k».proof.Proof.KernelIdealMesh

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Rows -/

/-- Row `r`, column `j`, of an array of `n` rows. -/
def ix (n : ℕ) [NeZero n] (r : ℕ) (j : Fin 512) : (⟨2, ![n, 512]⟩ : Shape).Idx := fun a => match a with
  | ⟨0, _⟩ => (⟨r % n, Nat.mod_lt _ (NeZero.pos n)⟩ : Fin n)
  | ⟨1, _⟩ => j

/-- The row of an index, and its column. -/
def row {n : ℕ} (i : (⟨2, ![n, 512]⟩ : Shape).Idx) : ℕ := (i 0).val
def col {n : ℕ} (i : (⟨2, ![n, 512]⟩ : Shape).Idx) : Fin 512 := i 1

theorem row_lt {n : ℕ} (i : (⟨2, ![n, 512]⟩ : Shape).Idx) : row i < n := (i 0).isLt

/-- Two indices with the same row and the same column are equal. -/
theorem idx_ext {n : ℕ} {i i' : (⟨2, ![n, 512]⟩ : Shape).Idx} (h0 : row i = row i') (h1 : col i = col i') : i = i' := by
  funext a
  fin_cases a
  · exact Fin.ext h0
  · exact h1

theorem ix_row (n : ℕ) [NeZero n] (r : ℕ) (j : Fin 512) : row (ix n r j) = r % n := rfl
theorem ix_col (n : ℕ) [NeZero n] (r : ℕ) (j : Fin 512) : col (ix n r j) = j := rfl

/-- Block `t` of an array: the rows 64·t to 64·t + 63. -/
def rowsOf (n t : ℕ) : Finset (⟨2, ![n, 512]⟩ : Shape).Idx := Finset.univ.filter fun i => row i / 64 = t

theorem mem_rowsOf {n t : ℕ} {i : (⟨2, ![n, 512]⟩ : Shape).Idx} : i ∈ rowsOf n t ↔ row i / 64 = t := by
  simp [rowsOf]

/-- The rectangle of 64 rows from row 64·t is block `t`. -/
theorem unit_set {n t : ℕ} {off : Fin 2 → ℕ} {h} (hoff : off = ![64 * t, 0]) :
    (Rect.unit (s := (⟨2, ![n, 512]⟩ : Shape)) off S64x512.size h).set = rowsOf n t := by
  subst hoff
  ext i
  rw [Rect.mem_set_unit, mem_rowsOf]
  have hi : (col i).val < 512 := (col i).isLt
  constructor
  · intro H
    have h0 : 64 * t ≤ row i ∧ row i < 64 * t + 64 := H 0
    omega
  · intro H a
    fin_cases a
    · show 64 * t ≤ row i ∧ row i < 64 * t + 64
      omega
    · show 0 ≤ (col i).val ∧ (col i).val < 0 + 512
      omega

theorem unit_row {n t : ℕ} {off : Fin 2 → ℕ} {h} (hoff : off = ![64 * t, 0]) (x : S64x512.Idx) :
    row ((Rect.unit (s := (⟨2, ![n, 512]⟩ : Shape)) off S64x512.size h).emb x) = 64 * t + row x := by
  subst hoff
  show 64 * t + 1 * row x = _
  omega

theorem unit_col {n t : ℕ} {off : Fin 2 → ℕ} {h} (hoff : off = ![64 * t, 0]) (x : S64x512.Idx) :
    col ((Rect.unit (s := (⟨2, ![n, 512]⟩ : Shape)) off S64x512.size h).emb x) = col x := by
  subst hoff
  refine Fin.ext ?_
  show 0 + 1 * (col x).val = _
  omega

/-- Blocks with different numbers share no row. -/
theorem rowsOf_disjoint (n : ℕ) {t t' : ℕ} (h : t ≠ t') : Disjoint (rowsOf n t) (rowsOf n t') :=
  Finset.disjoint_left.mpr fun i hi hi' => h ((mem_rowsOf.mp hi).symm.trans (mem_rowsOf.mp hi'))

/-! ## The contents -/

/-- The sum of two arrays in f32, rounded to bf16. -/
def padd {s : Shape} (a b : FVec F s .bf16) : FVec F s .bf16 :=
  truncf .bf16 (addf (extf .f32 a bitsLt_bf16_f32) (extf .f32 b bitsLt_bf16_f32)) bitsLt_bf16_f32

variable (m : (ℓ : Loc nD τ sig) → Buf (Elt F) ℓ)

/-- Device `c`'s argument, as it is staged. -/
def xstg (c : Dev nD) : Vec F S1024x512 .bf16 :=
  (win0_0.blk (0 : Fin 1)).view.read (Elt F) (m ((c : Thread nD τ).loc main_arg0))

/-- The half of the argument's rows that the device's x keeps. -/
def XB (c : Dev nD) : Vec F S512x512 .bf16 := fun i => xstg m c (ix 1024 (512 * half c + row i) (col i))
/-- What the pair sends in A: the pair's rows of this device's quarter. -/
def AR (c : Dev nD) : Vec F S256x512 .bf16 := fun i => XB m (pair c) (ix 512 (256 * part c + row i) (col i))
/-- The device's own rows of its quarter. -/
def OW (c : Dev nD) : Vec F S256x512 .bf16 := fun i => XB m c (ix 512 (256 * part c + row i) (col i))
/-- The sums over the pair. -/
def PS (c : Dev nD) : Vec F S256x512 .bf16 := padd (OW m c) (AR m c)
/-- The sums over all four y. -/
def FN (c : Dev nD) : Vec F S256x512 .bf16 := padd (PS m c) (PS m (cross c))
/-- The whole result: each block is the sums of the device that computes it. -/
def OUT (c : Dev nD) : Vec F S1024x512 .bf16 := fun i => FN m (owner c (row i / 64)) (ix 256 (row i) (col i))

/-! ## The pieces of the buffers -/

/-- The ghost state: the pipeline's rounds, and the exchange's, of at most three duties each. -/
abbrev UB : Type := URounds (GSem nD τ sig) (Fin 3)
abbrev UU : Type := UR sig nD τ × UB
local notation "𝕄" => MT nD τ sig Unit (Elt F) ℕ UU ℕ

/-- Block `t` of `xb` on device `c`. -/
def xbP (c : Dev nD) (t : ℕ) (q : PosShare TreeShare) (f : Vec F S512x512 .bf16) : sProp 𝕄 :=
  iprop(((c : Thread nD τ).loc cc0_scratch0) ↦[rowsOf 512 t]{q} f)
/-- Block `t` of the buffer that receives A. -/
def arP (c : Dev nD) (t : ℕ) (q : PosShare TreeShare) (f : Vec F S256x512 .bf16) : sProp 𝕄 :=
  iprop(((c : Thread nD τ).loc cc0_scratch1) ↦[rowsOf 256 t]{q} f)
/-- Block `t` of the buffer of the sums over the pair. -/
def psP (c : Dev nD) (t : ℕ) (q : PosShare TreeShare) (f : Vec F S256x512 .bf16) : sProp 𝕄 :=
  iprop(((c : Thread nD τ).loc cc0_scratch2) ↦[rowsOf 256 t]{q} f)
/-- Block `t` of the buffer that receives B. -/
def brP (c : Dev nD) (t : ℕ) (q : PosShare TreeShare) (f : Vec F S256x512 .bf16) : sProp 𝕄 :=
  iprop(((c : Thread nD τ).loc cc0_scratch3) ↦[rowsOf 256 t]{q} f)
/-- Block `t` of the result's staging buffer. -/
def outP (c : Dev nD) (t : ℕ) (q : PosShare TreeShare) (f : Vec F S1024x512 .bf16) : sProp 𝕄 :=
  iprop(((c : Thread nD τ).loc cc0_stg1_0) ↦[rowsOf 1024 t]{q} f)

/-- Some contents. -/
abbrev arA (c : Dev nD) (t : ℕ) : sProp 𝕄 := iprop(∃ f, arP (F := F) c t fullShare f)
abbrev psA (c : Dev nD) (t : ℕ) : sProp 𝕄 := iprop(∃ f, psP (F := F) c t fullShare f)
abbrev brA (c : Dev nD) (t : ℕ) : sProp 𝕄 := iprop(∃ f, brP (F := F) c t fullShare f)
abbrev outA (c : Dev nD) (t : ℕ) : sProp 𝕄 := iprop(∃ f, outP (F := F) c t fullShare f)

/-! ## The semaphores and their schedule -/

/-- Slice `s` of the `k`-th array of four DMA semaphores. -/
def sm (k : Fin 10) (s : Fin 4) : DmaSem sig := ⟨2 + 4 * k.val + s.val, by have : sig.nDmaSem = 42 := rfl; omega⟩
/-- It, on device `c`. -/
abbrev cl (k : Fin 10) (s : Fin 4) (c : Dev nD) : GSem nD τ sig := ((c : Thread nD τ), .dma (sm k s))
/-- The barrier semaphore of device `c`. -/
abbrev bar (c : Dev nD) : GSem nD τ sig := ((c : Thread nD τ), .reg barrier0)

/-- The credit of one slice: 64 rows. -/
def N : ℕ := ((Memref.whole cc0_scratch1).slice (Rect.unit (s := S256x512) ![0, 0] S64x512.size inb_S256x512_S64x512_0_0) (fun _ => rfl)).view.dmaCredit

/-- What the copy that credits slice `s` of array `k` hands to device `c`. The even arrays are the
    sources of A, B, C, of C to the other x, and of D, which come back; the odd ones are the landings. -/
def dmaPay (c : Dev nD) (k : Fin 10) (s : Fin 4) : sProp 𝕄 := match k with
  | 0 => xbP c (othT c s) fullShare (XB m c)
  | 1 => arP c s.val fullShare (AR m c)
  | 2 => psP c s.val fullShare.left (PS m c)
  | 3 => brP c s.val fullShare (PS m (cross c))
  | 4 => outP c (finT c s) fullShare.left (OUT m c)
  | 5 => outP c (ofinT c s) fullShare (OUT m c)
  | 6 => outP c (finT c s) fullShare.right (OUT m c)
  | 7 => outP c (finT (xp c) s) fullShare (OUT m c)
  | 8 => outP c (ofinT c s) fullShare (OUT m c)
  | 9 => outP c (ofinT (xp c) s) fullShare (OUT m c)

/-- What a signal of the barrier hands to device `c`: from its pair, the buffers that `c`'s copies to the
    pair land in; from its cross and from the device at the other x, likewise. -/
def barPay (c : Dev nD) (d : Fin 3) : sProp 𝕄 := match d with
  | 0 => iprop((bigSep Finset.univ fun s : Fin 4 => arA (F := F) (pair c) s.val) ∗ bigSep Finset.univ fun s : Fin 4 => outA (F := F) (pair c) (finT c s))
  | 1 => iprop(bigSep Finset.univ fun s : Fin 4 => brA (F := F) (cross c) s.val)
  | 2 => iprop((bigSep Finset.univ fun s : Fin 4 => outA (F := F) (xp c) (finT c s)) ∗ bigSep Finset.univ fun s : Fin 4 => outA (F := F) (xp c) (ofinT c s))

/-- The array and the slice of a DMA semaphore. -/
def famOf (q : DmaSem sig) : Fin 10 := ⟨(q.val - 2) / 4 % 10, Nat.mod_lt _ (by decide)⟩
def slOf (q : DmaSem sig) : Fin 4 := ⟨(q.val - 2) % 4, Nat.mod_lt _ (by decide)⟩

theorem famOf_sm : ∀ k s, famOf (sm k s) = k := by decide
theorem slOf_sm : ∀ k s, slOf (sm k s) = s := by decide

/-- The schedule, of one round: three signals on a barrier semaphore, one copy on a DMA semaphore. -/
def Rd : Rounds.Schedule (GSem nD τ sig) (Fin 3) 𝕄 where
  duties g r := match g.1.2, g.2 with
    | .tc, .reg _ => if r = 0 then Finset.univ else ∅
    | .tc, .dma q => if r = 0 ∧ 2 ≤ q.val then {0} else ∅
    | _, _ => ∅
  unitless _ := False
  amount g _ _ := match g.2 with
    | .reg _ => 1
    | .dma _ => N
  payload g _ d := match g.2 with
    | .reg _ => barPay g.1.1 d
    | .dma q => dmaPay m g.1.1 (famOf q) (slOf q)
  amount_pos g _ _ _ := by
    split
    · exact Nat.one_pos
    · exact View.dmaCredit_pos _ (by decide)

instance payload_storable (g : GSem nD τ sig) (r : ℕ) (d : Fin 3) : BI.Storable (upEmb : UEmb _ 𝕄) ((Rd m).payload g r d) := by
  show BI.Storable _ (match g.2 with | .reg _ => barPay g.1.1 d | .dma q => dmaPay m g.1.1 (famOf q) (slOf q))
  unfold barPay dmaPay arA brA outA xbP arP psP brP outP
  (repeat' split) <;> infer_instance

/-! ### Its tables -/

theorem sm_ge (k : Fin 10) (s : Fin 4) : 2 ≤ (sm k s).val := by show 2 ≤ 2 + 4 * k.val + s.val; omega

theorem duties_bar (c : Dev nD) : (Rd m).duties (bar c) 0 = Finset.univ := if_pos (e := ∅) (rfl : (0 : ℕ) = 0)
theorem duties_dma (k : Fin 10) (s : Fin 4) (c : Dev nD) : (Rd m).duties (cl k s c) 0 = {0} := if_pos ⟨rfl, sm_ge k s⟩
theorem duties_bar_later (c : Dev nD) (r : ℕ) (h : 0 + 1 ≤ r) : (Rd m).duties (bar c) r = ∅ := if_neg (by omega)
theorem duties_dma_later (k : Fin 10) (s : Fin 4) (c : Dev nD) (r : ℕ) (h : 0 + 1 ≤ r) : (Rd m).duties (cl k s c) r = ∅ :=
  if_neg fun h' => by have := h'.1; omega
theorem amount_bar (c : Dev nD) (r : ℕ) (d : Fin 3) : (Rd m).amount (bar c) r d = 1 := rfl
theorem amount_dma (k : Fin 10) (s : Fin 4) (c : Dev nD) (r : ℕ) (d : Fin 3) : (Rd m).amount (cl k s c) r d = N := rfl
theorem expect_bar (c : Dev nD) : (Rd m).expect (bar c) 0 = 3 := by
  unfold Rounds.Schedule.expect Rounds.Schedule.amountOf
  rw [duties_bar]; rfl
theorem expect_dma (k : Fin 10) (s : Fin 4) (c : Dev nD) : (Rd m).expect (cl k s c) 0 = N := by
  unfold Rounds.Schedule.expect Rounds.Schedule.amountOf
  rw [duties_dma, Finset.sum_singleton]; rfl
theorem payload_dma (k : Fin 10) (s : Fin 4) (c : Dev nD) (r : ℕ) (d : Fin 3) : (Rd m).payload (cl k s c) r d = dmaPay m c k s := by
  show dmaPay m c (famOf (sm k s)) (slOf (sm k s)) = _
  rw [famOf_sm, slOf_sm]
theorem payload_bar (c : Dev nD) (r : ℕ) (d : Fin 3) : (Rd m).payload (bar c) r d = barPay c d := rfl
theorem rest_dma (k : Fin 10) (s : Fin 4) (c : Dev nD) :
    (bigSep ((Rd m).duties (cl k s c) 0 \ ∅) fun d => (Rd m).payload (cl k s c) 0 d) = dmaPay m c k s := by
  rw [duties_dma, Finset.sdiff_empty, bigSep_singleton, payload_dma]
theorem rest_bar (c : Dev nD) :
    (bigSep ((Rd m).duties (bar c) 0 \ ∅) fun d => (Rd m).payload (bar c) 0 d) = iprop(barPay (F := F) c 0 ∗ barPay (F := F) c 1 ∗ barPay (F := F) c 2) := by
  rw [duties_bar, Finset.sdiff_empty]
  exact bigSep_univ_eq_bigSepL [(0 : Fin 3), 1, 2] (by decide) (by decide) _

/-! ### What a device owes, and the order of the waits -/

/-- The level of a DMA semaphore: the landings of A, B, C come one after the other, those at the other x last;
    what comes back to a sender is owed by nobody. -/
def lvq (q : DmaSem sig) : ℕ := if q.val < 2 then 0 else (![0, 2, 0, 3, 0, 4, 0, 5, 0, 5] : Fin 10 → ℕ) (famOf q)
def L (g : GSem nD τ sig) : Finset Unit := if g.1.2 = .tc then {()} else ∅
def lv (g : GSem nD τ sig) (_ : Unit) : ℕ := match g.2 with
  | .reg _ => 1
  | .dma q => lvq q

theorem L_of_ne (g : GSem nD τ sig) (h : g.1.2 ≠ .tc) : L g = ∅ := if_neg h
theorem L_tc (c : Dev nD) (q : SemLoc sig) : L ((c : Thread nD τ), q) = {()} := if_pos rfl

/-- All that is owed is owed to cells above level `l`. -/
def Above (l : ℕ) (O : CellTallies nD τ sig Unit) : Prop := ∀ g u, 0 < O g u → g.1.2 = .tc ∧ l < lv g u

theorem Above.zero (l : ℕ) : Above l 0 := fun _ _ h => absurd h (Nat.lt_irrefl 0)
theorem Above.add {l : ℕ} {O O' : CellTallies nD τ sig Unit} (h : Above l O) (h' : Above l O') : Above l (O + O') := fun g u hg => by
  rw [Pi.add_apply, Finsupp.add_apply] at hg
  rcases Nat.eq_zero_or_pos (O g u) with h0 | h0
  · exact h' g u (by omega)
  · exact h g u h0
theorem Above.tally {l : ℕ} (c : Dev nD) (q : SemLoc sig) (n : ℕ) (h : l < lv ((c : Thread nD τ), q) ()) : Above l (tallyAt ((c : Thread nD τ), q) () n) := fun g u hg => by
  rw [tallyAt_apply] at hg
  by_cases hh : g = ((c : Thread nD τ), q) ∧ u = ()
  · obtain ⟨rfl, rfl⟩ := hh
    exact ⟨rfl, h⟩
  · rw [if_neg hh] at hg
    exact absurd hg (Nat.lt_irrefl 0)

/-- A wait is allowed when all that is owed is owed above it. -/
theorem mayWait (c : Dev nD) (q : SemLoc sig) (l : ℕ) (hl : lv ((c : Thread nD τ), q) () ≤ l) {O : CellTallies nD τ sig Unit} (hO : Above l O) :
    (levAts L lv : sProp 𝕄) ⊢ MayWait (c : Thread nD τ) q () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl) (fun g u hg => (hO g u hg).2)

/-- What device `c` still owes to array `k` of device `p c`: the slices from `n` on. -/
def OFam (k : Fin 10) (p : Dev nD → Dev nD) (c : Dev nD) (n : ℕ) : CellTallies nD τ sig Unit :=
  ∑ s : Fin 4, if n ≤ s.val then tallyAt (cl k s (p c)) () N else 0

theorem OFam_step (k : Fin 10) (p : Dev nD → Dev nD) (c : Dev nD) (s : Fin 4) :
    OFam k p c s.val = OFam k p c (s.val + 1) + tallyAt (cl k s (p c)) () N := by
  unfold OFam
  rw [← Finset.add_sum_erase _ _ (Finset.mem_univ s), ← Finset.add_sum_erase (a := s) _ (fun s' : Fin 4 => if s.val + 1 ≤ s'.val then _ else _) (Finset.mem_univ s),
    if_pos (Nat.le_refl _), if_neg (Nat.not_succ_le_self _), zero_add, add_comm]
  refine congrArg (· + _) (Finset.sum_congr rfl fun s' hs' => ?_)
  have hne : s'.val ≠ s.val := fun h => (Finset.mem_erase.mp hs').1 (Fin.ext h)
  by_cases h : s.val ≤ s'.val
  · rw [if_pos h, if_pos (by omega)]
  · rw [if_neg h, if_neg (by omega)]
theorem OFam_end (k : Fin 10) (p : Dev nD → Dev nD) (c : Dev nD) : OFam k p c 4 = 0 :=
  Finset.sum_eq_zero fun s _ => if_neg (by omega)
theorem lv_cl (k : Fin 10) (s : Fin 4) (c : Dev nD) : lv (cl k s c) () = (![0, 2, 0, 3, 0, 4, 0, 5, 0, 5] : Fin 10 → ℕ) k := by
  show lvq (sm k s) = _
  unfold lvq
  rw [famOf_sm, if_neg (Nat.not_lt.mpr (sm_ge k s))]
theorem OFam_above (k : Fin 10) (p : Dev nD → Dev nD) (c : Dev nD) (n l : ℕ) (h : l < (![0, 2, 0, 3, 0, 4, 0, 5, 0, 5] : Fin 10 → ℕ) k) : Above l (OFam k p c n) :=
  Finset.sum_induction _ (Above l) (fun _ _ => Above.add) (Above.zero l) fun s _ => by
    split
    · exact Above.tally _ _ _ (by rw [show lv (((p c : Dev nD) : Thread nD τ), SemLoc.dma (sm k s)) () = _ from lv_cl k s (p c)]; exact h)
    · exact Above.zero l

/-- What device `c` owes for its five kinds of copies, from the given slices on. -/
def OO (c : Dev nD) (a b cc d e : ℕ) : CellTallies nD τ sig Unit :=
  OFam 1 pair c a + (OFam 3 cross c b + (OFam 5 pair c cc + (OFam 7 xp c d + OFam 9 xp c e)))

/-- A copy takes its slice's credit off what is owed. -/
theorem OO_A (c : Dev nD) (s : Fin 4) (b cc d e : ℕ) : OO c s.val b cc d e = OO c (s.val + 1) b cc d e + tallyAt (cl 1 s (pair c)) () N := by
  unfold OO; rw [OFam_step 1 pair c s]; ac_rfl
theorem OO_B (c : Dev nD) (s : Fin 4) (a cc d e : ℕ) : OO c a s.val cc d e = OO c a (s.val + 1) cc d e + tallyAt (cl 3 s (cross c)) () N := by
  unfold OO; rw [OFam_step 3 cross c s]; ac_rfl
theorem OO_C (c : Dev nD) (s : Fin 4) (a b d e : ℕ) : OO c a b s.val d e = OO c a b (s.val + 1) d e + tallyAt (cl 5 s (pair c)) () N := by
  unfold OO; rw [OFam_step 5 pair c s]; ac_rfl
theorem OO_XB (c : Dev nD) (s : Fin 4) (a b cc e : ℕ) : OO c a b cc s.val e = OO c a b cc (s.val + 1) e + tallyAt (cl 7 s (xp c)) () N := by
  unfold OO; rw [OFam_step 7 xp c s]; ac_rfl
theorem OO_XC (c : Dev nD) (s : Fin 4) (a b cc d : ℕ) : OO c a b cc d s.val = OO c a b cc d (s.val + 1) + tallyAt (cl 9 s (xp c)) () N := by
  unfold OO; rw [OFam_step 9 xp c s]; ac_rfl

/-! ## The contents, slice by slice

Each fact below says that the rows one copy reads are the rows the schedule names at its landing, or that a sum of
two slices is a slice of the sums. An offset enters through its closed form. -/

section Slices

variable {m}
variable (c : Dev nD) (s : Fin 4)

theorem padd_apply {s : Shape} (a b : FVec F s .bf16) {s' : Shape} (a' b' : FVec F s' .bf16) (i : s.Idx) (i' : s'.Idx) (ha : a i = a' i') (hb : b i = b' i') :
    padd a b i = padd a' b' i' := by
  show truncf .bf16 (addf (extf .f32 a _) (extf .f32 b _)) _ i = truncf .bf16 (addf (extf .f32 a' _) (extf .f32 b' _)) _ i'
  simp only [truncf, addf, extf, ha, hb]

/-- A's landing. -/
theorem XB_slice {off off' : Fin 2 → ℕ} {h h'} (e : off = ![64 * othT c s, 0]) (e' : off' = ![64 * s.val, 0]) (x : S64x512.Idx) :
    XB m c ((Rect.unit (s := S512x512) off S64x512.size h).emb x) = AR m (pair c) ((Rect.unit (s := S256x512) off' S64x512.size h').emb x) := by
  unfold AR
  rw [pair_pair, part_pair]
  refine congrArg _ (idx_ext ?_ ?_)
  · have hx := row_lt x
    have hp := part_lt c
    rw [ix_row, unit_row (n := 512) e x, unit_row (n := 256) e' x]
    unfold othT; omega
  · rw [ix_col, unit_col (n := 512) e x, unit_col (n := 256) e' x]

/-- The device's own rows of slice `s`. -/
theorem OW_slice {off off' : Fin 2 → ℕ} {h h'} (e : off = ![64 * ownT c s, 0]) (e' : off' = ![64 * s.val, 0]) (x : S64x512.Idx) :
    XB m c ((Rect.unit (s := S512x512) off S64x512.size h).emb x) = OW m c ((Rect.unit (s := S256x512) off' S64x512.size h').emb x) := by
  unfold OW
  refine congrArg _ (idx_ext ?_ ?_)
  · have hx := row_lt x
    have hp := part_lt c
    rw [ix_row, unit_row (n := 512) e x, unit_row (n := 256) e' x]
    unfold ownT; omega
  · rw [ix_col, unit_col (n := 512) e x, unit_col (n := 256) e' x]

/-- Row `x` of block `t` of the result on `c'`, when `d` is the device that computes the block. -/
theorem OUT_block (c' d : Dev nD) (t : ℕ) (ht : owner c' t = d) {off : Fin 2 → ℕ} {h} (e : off = ![64 * t, 0]) (x : S64x512.Idx) :
    OUT m c' ((Rect.unit (s := S1024x512) off S64x512.size h).emb x) = FN m d (ix 256 (64 * t + row x) (col x)) := by
  unfold OUT
  rw [unit_row (n := 1024) e x, unit_col (n := 1024) e x]
  have hx := row_lt x
  have hd : (64 * t + row x) / 64 = t := by omega
  rw [hd, ht]

/-- Slice `s` of the sums over all four y is the block of the result. -/
theorem FN_slice {off off' : Fin 2 → ℕ} {h h'} (e : off = ![64 * s.val, 0]) (e' : off' = ![64 * finT c s, 0]) (x : S64x512.Idx) :
    FN m c ((Rect.unit (s := S256x512) off S64x512.size h).emb x) = OUT m c ((Rect.unit (s := S1024x512) off' S64x512.size h').emb x) := by
  rw [OUT_block c c _ (owner_finT c s) e' x]
  refine congrArg _ (idx_ext ?_ ?_)
  · have hx := row_lt x
    rw [ix_row, unit_row (n := 256) e x]
    unfold finT ownT; omega
  · rw [ix_col, unit_col (n := 256) e x]

end Slices

end Cert.KernelIdeal.Hand

end
-- ==== Proof.KernelIdealSteps.lean ====
/- One step of each phase, at any slice.

   The body is four times the same step in each of its phases. Each step is proved here
   once, for slice `s`; the program's operations enter with the closed forms of their
   offsets, destinations and semaphores. A phase's resources are kept as one family over
   the slices: what a step needs where it has not run, what it leaves where it has. -/
module

public import proofs.«01_k».proof.Proof.KernelIdealSched

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The pipeline's part of the user algebra, and the exchange's. -/
abbrev EP : Emb (UR sig nD τ) 𝕄 := embL
abbrev ER : Emb UB 𝕄 := embR

abbrev 𝒱₀ : Variants := Variants.none

/-! ## The records and the linear resources -/

/-- The cells of the exchange: the barrier semaphores and the DMA semaphores of the ten arrays. -/
abbrev Cell : Type := Dev nD × Option (Fin 10 × Fin 4)
def cellAt : Cell → GSem nD τ sig
  | (c, none) => bar c
  | (c, some (k, s)) => cl k s c

section Defs

variable (m : (ℓ : Loc nD τ sig) → Buf (Elt F) ℓ)

/-- What every device knows throughout: each cell's invariant, that its round is open, and the levels. -/
def Recs (K : Cell → ℕ) : sProp 𝕄 :=
  iprop((bigSep Finset.univ fun ck : Cell => cellInv ER (Rd m) (K ck) (cellAt ck))
    ∗ (bigSep Finset.univ fun ck : Cell => reached ER (cellAt ck) 0) ∗ levAts L lv)

instance recs_persistent (K : Cell → ℕ) : BI.Persistent (Recs m K) := by unfold Recs; infer_instance

/-- Credit for one copy on a DMA cell; the position of its owner; the right to make the copy. -/
abbrev Crd (k : Fin 10) (s : Fin 4) (c : Dev nD) : sProp 𝕄 := cred (tallyAt (cl k s c) () N)
abbrev Pos (k : Fin 10) (s : Fin 4) (c : Dev nD) (R : ℕ) : sProp 𝕄 := atPos ER (cl k s c) R (∅ : Finset (Fin 3)) 0
abbrev Tok (k : Fin 10) (s : Fin 4) (c : Dev nD) : sProp 𝕄 := dutyTok ER (cl k s c) 0 (0 : Fin 3)
/-- What a device still owes, at whatever it has waited for. -/
def ow (c : Dev nD) (O : CellTallies nD τ sig Unit) : sProp 𝕄 := iprop(∃ W, owes (c : Thread nD τ) O W)

/-- A family over the slices: `B` at the first `n`, `A` at the others. -/
def fam (n : ℕ) (A B : Fin 4 → sProp 𝕄) : sProp 𝕄 := bigSep Finset.univ fun s : Fin 4 => if s.val < n then B s else A s

end Defs

/-- Step `s` takes `A s` from the family and puts `B s` back. -/
theorem fam_step (A B : Fin 4 → sProp 𝕄) (s : Fin 4) : fam s.val A B ⊢ iprop(A s ∗ (B s -∗ fam (s.val + 1) A B)) := by
  unfold fam
  rw [bigSep_univ_at (fun s' : Fin 4 => if s'.val < s.val then B s' else A s') s, bigSep_univ_at (fun s' : Fin 4 => if s'.val < s.val + 1 then B s' else A s') s,
    if_neg (Nat.lt_irrefl _), if_pos (Nat.lt_succ_self _)]
  rw [bigSep_congr (Ψ := fun s' : Fin 4 => if s'.val < s.val + 1 then B s' else A s') fun s' hs' => by
    have hne : s'.val ≠ s.val := fun h => (Finset.mem_erase.mp hs').1 (Fin.ext h)
    by_cases h : s'.val < s.val
    · rw [if_pos h, if_pos (by omega)]
    · rw [if_neg h, if_neg (by omega)]]
  iintro ⟨HA, HR⟩
  isplitl [HA]; · iexact HA
  iintro HB
  isplitl [HB]; · iexact HB
  iexact HR

theorem fam_zero (A B : Fin 4 → sProp 𝕄) : fam 0 A B = bigSep Finset.univ A :=
  bigSep_congr fun _ _ => if_neg (Nat.not_lt_zero _)
theorem fam_four (A B : Fin 4 → sProp 𝕄) : fam 4 A B = bigSep Finset.univ B :=
  bigSep_congr fun s _ => if_pos s.isLt

section Steps

variable (m : (ℓ : Loc nD τ sig) → Buf (Elt F) ℓ) (K : Cell → ℕ) (c : Dev nD)

/-- The records hold at every cell. -/
theorem recs_at (ck : Cell) : Recs m K ⊢ iprop(cellInv ER (Rd m) (K ck) (cellAt ck) ∗ reached ER (cellAt ck) 0) := by
  have hI : (bigSep Finset.univ fun ck : Cell => cellInv ER (Rd m) (K ck) (cellAt ck)) ⊢ cellInv ER (Rd m) (K ck) (cellAt ck) := bigSep_elim (Finset.mem_univ ck)
  have hR : (bigSep Finset.univ fun ck : Cell => (reached ER (cellAt ck) 0 : sProp 𝕄)) ⊢ reached ER (cellAt ck) 0 := bigSep_elim (Finset.mem_univ ck)
  unfold Recs
  iintro ⟨HI, HR, -⟩
  isplitl [HI]
  · iapply hI; iexact HI
  · iapply hR; iexact HR
theorem recs_lev : Recs m K ⊢ (levAts L lv : sProp 𝕄) := by
  unfold Recs
  iintro ⟨-, -, HL⟩
  iexact HL

variable {m}

/-- A copy into rows of another device. `g` names the contents of the landing's buffer: on the rows written they are
    the rows read. -/
theorem send_step {kS kR : Fin 10} {s : Fin 4} {src dst : Memref sig .tc .vmem S64x512 .bf16} {n c' : Dev nD} (hn : n = c')
    {sS sR : SemLoc sig} (hs : sS = .dma (sm kS s)) (hr : sR = .dma (sm kR s)) (hN : dst.view.dmaCredit = N)
    {hsc : dst.view.ref.isScScratch = false} {hsrc : src.view.WordExact} {hdst : dst.view.WordExact}
    {hsem : DmaTarget.Typed .vmem sR (.remote (n : Thread nD τ) dst sS hsc)}
    {S : Finset (Idx (src.view.loc (c : Thread nD τ)))} {S' : Finset (Idx (dst.view.loc (c' : Thread nD τ)))} (hS : src.view.set = S) (hS' : dst.view.set = S')
    {q : PosShare TreeShare} {fs : Buf (Elt F) (src.view.loc (c : Thread nD τ))} {fd : Buf (Elt F) (dst.view.loc (c' : Thread nD τ))}
    (g : Buf (Elt F) (dst.view.loc (c' : Thread nD τ))) (hread : src.view.read (Elt F) fs = dst.view.read (Elt F) g)
    {O₀ : CellTallies nD τ sig Unit} (O : CellTallies nD τ sig Unit) (hO : O₀ = O + tallyAt (cl kR s c') () N)
    {P Pd : sProp 𝕄} (hP : P = (src.view.loc (c : Thread nD τ) ↦[S]{q} fs)) (hPd : Pd = (dst.view.loc (c' : Thread nD τ) ↦[S']{fullShare} fd))
    (hp₁ : P = dmaPay m c kS s) (hp₂ : (dst.view.loc (c' : Thread nD τ) ↦[S']{fullShare} g) = dmaPay m c' kR s)
    {k : PUnit → Prog (TpuEff nD τ sig (Elt F) Λ₀ .tc) PUnit} {Q : PUnit → sProp 𝕄} :
    iprop(Recs m K ∗ P ∗ Pd ∗ ow c O₀ ∗ Tok kS s c ∗ Tok kR s c')
      ⊢ iprop(((Crd kS s c ∗ ow c O) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma src (.remote (n : Thread nD τ) dst sS hsc) sR hsrc hdst hsem) k) Q) := by
  subst hn hs hr hS hS' hP hPd
  unfold ow
  iintro ⟨#HR, Hs, Hd, ⟨%W, HO⟩, Ht₁, Ht₂⟩ Hk
  ihave #H₁ := (recs_at m K (c, some (kS, s))) $$ HR
  ihave #H₂ := (recs_at m K (n, some (kR, s))) $$ HR
  icases H₁ with ⟨#HI₁, #Hr₁⟩
  icases H₂ with ⟨#HI₂, #Hr₂⟩
  iapply (Rounds.wp_send_pointsTo 𝒱₀ ER (Rd m) (c : Thread nD τ) none (κ₁ := K (c, some (kS, s))) (κ₂ := K (n, some (kR, s)))
      (r₁ := 0) (r₂ := 0) (d₁ := 0) (d₂ := 0) (fd := fd)
      (by rw [show (Rd m).duties ((c : Thread nD τ), SemLoc.dma (sm kS s)) 0 = {0} from duties_dma m kS s c]; exact Finset.mem_singleton_self _)
      (by rw [show (Rd m).duties ((n : Thread nD τ), SemLoc.dma (sm kR s)) 0 = {0} from duties_dma m kR s n]; exact Finset.mem_singleton_self _)
      () () N (show dst.view.amount (.dma (sm kR s)) = N from hN) rfl rfl O hO (W := W)
      (Entails.of_eq (hp₁.trans (payload_dma m kS s c 0 0).symm))
      ((Entails.of_eq (pointsTo_congr (g := g) fun i hi => by
          obtain ⟨x, -, rfl⟩ := Finset.mem_map.mp hi
          have hw := View.write_emb_of_mem (v := dst.view) (Val := Elt F) fd (src.view.read (Elt F) fs) (Finset.mem_univ x)
          rw [congrFun hread x] at hw
          exact hw.trans (cast_cast _ _ _))).trans (Entails.of_eq (hp₂.trans (payload_dma m kR s n 0 0).symm)))) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨HC, HO⟩
  iapply Hk
  isplitl [HC]; · iexact HC
  iexists W
  iexact HO

/-- A wait for one copy: what it hands over comes. -/
theorem wait_step {kS : Fin 10} {s : Fin 4} {src dst : Memref sig .tc .vmem S64x512 .bf16} {sS : DmaSem sig} (hs : sS = sm kS s) (hN : dst.view.dmaCredit = N)
    {h₁ : src.view.WordExact} {h₂ : dst.view.WordExact}
    {O : CellTallies nD τ sig Unit} (hO : Above ((![0, 2, 0, 3, 0, 4, 0, 5, 0, 5] : Fin 10 → ℕ) kS) O)
    {k : PUnit → Prog (TpuEff nD τ sig (Elt F) Λ₀ .tc) PUnit} {Q : PUnit → sProp 𝕄} :
    iprop(Recs m K ∗ Crd kS s c ∗ ow c O ∗ Pos kS s c 0)
      ⊢ iprop(((ow c O ∗ Pos kS s c 1 ∗ dmaPay m c kS s) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 sS src dst h₁ h₂) k) Q) := by
  subst hs
  unfold ow
  iintro ⟨#HR, HC, ⟨%W, HO⟩, HP⟩ Hk
  ihave #H₁ := (recs_at m K (c, some (kS, s))) $$ HR
  icases H₁ with ⟨#HI, -⟩
  ihave #HL := (recs_lev m K) $$ HR
  iapply (Rounds.wp_wait_rest_token 𝒱₀ ER (Rd m) (c : Thread nD τ) none (κ := K (c, some (kS, s)))
      (wpE_waitDma2_eq 𝒱₀ (c : Thread nD τ) none Set.univ) (Set.mem_univ _) () (O := O) (W := W) (R := 0) (m := 0) (T := ∅)
      (by rw [Nat.zero_add, hN]; exact (expect_dma m kS s c).symm)) $$ [HC HO HP]
  · isplitr; · iexact HI
    isplitl [HC]; · rw [hN]; iexact HC
    isplitl [HO]; · iexact HO
    isplitr; · iapply (mayWait c (.dma (sm kS s)) _ (Nat.le_of_eq (lv_cl kS s c)) hO); iexact HL
    iexact HP
  iintro ⟨HO, HP, -, Hpay⟩
  ihave Hpay := (Entails.of_eq (rest_dma m kS s c)) $$ Hpay
  iapply Hk
  isplitl [HO]; · iexists _; iexact HO
  isplitl [HP]; · iexact HP
  iexact Hpay

/-- A load of rows held at any share. -/
theorem load_step {sh : Shape} {e : EltTy} {M : Memref sig .tc .vmem sh e} {r : Rect sh} {hl : M.view.LoadsAt r.toLoadRect} {S : Finset (Idx ((M.access r).loc (c : Thread nD τ)))}
    (hS : (M.access r).set = S) {q : PosShare TreeShare} {f : Buf (Elt F) ((M.access r).loc (c : Thread nD τ))} {P : sProp 𝕄}
    (hP : P = ((M.access r).loc (c : Thread nD τ) ↦[S]{q} f))
    {k : (r.shape.Idx → Elt F e) → Prog (TpuEff nD τ sig (Elt F) Λ₀ .tc) PUnit} {Q : PUnit → sProp 𝕄} :
    P ⊢ iprop((P -∗ wp frame (wpE (defs₀ (F := F)) 𝒱₀ (c : Thread nD τ) none) Set.univ (k ((M.access r).read (Elt F) f)) Q)
        -∗ wp frame (wpE (defs₀ (F := F)) 𝒱₀ (c : Thread nD τ) none) Set.univ (.op (.load M r.toLoadRect hl) k) Q) := by
  subst hP
  exact wp_load_rect 𝒱₀ (c : Thread nD τ) none Set.univ (m := M) (r := r) (hl := hl) hS.subset

/-- A store over rows held outright: they hold what is stored. -/
theorem store_step {sh : Shape} {e : EltTy} {M : Memref sig .tc .vmem sh e} {r : Rect sh} {w : r.shape.Idx → Elt F e} {hx : (M.access r).Stores Finset.univ}
    {hm : (Finset.univ : Finset r.shape.Idx) = Finset.univ ∨ ∀ a, r.stride a = 1} {S : Finset (Idx ((M.access r).loc (c : Thread nD τ)))}
    (hS : (M.access r).set = S) {f : Buf (Elt F) ((M.access r).loc (c : Thread nD τ))} (g : Buf (Elt F) ((M.access r).loc (c : Thread nD τ)))
    (hw : w = (M.access r).read (Elt F) g) {P P' : sProp 𝕄}
    (hP : P = ((M.access r).loc (c : Thread nD τ) ↦[S]{fullShare} f)) (hP' : P' = ((M.access r).loc (c : Thread nD τ) ↦[S]{fullShare} g))
    {k : PUnit → Prog (TpuEff nD τ sig (Elt F) Λ₀ .tc) PUnit} {Q : PUnit → sProp 𝕄} :
    P ⊢ iprop((P' -∗ wp frame (wpE (defs₀ (F := F)) 𝒱₀ (c : Thread nD τ) none) Set.univ (k ⟨⟩) Q)
        -∗ wp frame (wpE (defs₀ (F := F)) 𝒱₀ (c : Thread nD τ) none) Set.univ (.op (.store M r w Finset.univ hx hm) k) Q) := by
  subst hS hP hP'
  have hc : ((M.access r).loc (c : Thread nD τ) ↦[(M.access r).set]{fullShare} ((M.access r).write (Elt F) f w Finset.univ) : sProp 𝕄)
      = ((M.access r).loc (c : Thread nD τ) ↦[(M.access r).set]{fullShare} g) := pointsTo_congr fun i hi => by
    obtain ⟨x, -, rfl⟩ := Finset.mem_map.mp hi
    have h := View.write_emb_of_mem (v := M.access r) (Val := Elt F) f w (Finset.mem_univ x)
    rw [congrFun hw x] at h
    exact h.trans (cast_cast _ _ _)
  rw [← hc]
  exact wp_store 𝒱₀ (c : Thread nD τ) none Set.univ (m := M) (r := r) (w := w) (Mk := Finset.univ) (hx := hx) (hm := hm) (S := (M.access r).set) (f := f) subset_rfl

end Steps

end Cert.KernelIdeal.Hand

end
-- ==== Proof.KernelIdealPhases.lean ====
/- The phases of the body, a slice at a time.

   Each theorem here is one slice of one phase: the operations of the body from the slice's
   wait to its last copy, on the phase's family of resources. -/
module

public import proofs.«01_k».proof.Proof.KernelIdealSteps

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The phases -/

section Phases

variable (m : (ℓ : Loc nD τ sig) → Buf (Elt F) ℓ) (K : Cell → ℕ) (c : Dev nD) (s : Fin 4)

/-- Phase A, slice `s`: before, the rows to send, the rows of the pair they go to, and the two rights; after, the credit
    for the rows' return. -/
def preA : sProp 𝕄 := iprop(xbP c (othT c s) fullShare (XB m c) ∗ arA (pair c) s.val ∗ Tok 0 s c ∗ Tok 1 s (pair c))
def postA : sProp 𝕄 := Crd 0 s c

/-- Phase B, slice `s`: before, the device's own rows, the buffer of the sums, the rows of the cross, the two rights, and the
    wait for A's landing; after, what the pair sent, half a share of the sums, and the credit for the other half. -/
def preB : sProp 𝕄 := iprop((Crd 1 s c ∗ Pos 1 s c 0) ∗ xbP c (ownT c s) fullShare (XB m c) ∗ psA c s.val ∗ brA (cross c) s.val ∗ Tok 2 s c ∗ Tok 3 s (cross c))
def postB : sProp 𝕄 := iprop(Pos 1 s c 1 ∗ xbP c (ownT c s) fullShare (XB m c) ∗ arP c s.val fullShare (AR m c) ∗ psP c s.val fullShare.right (PS m c) ∗ Crd 2 s c)

/-- Phase C, slice `s`: before, the wait for B's landing, half a share of the sums, the block of the result here, on the pair and
    at the other x, and the four rights; after, what the cross sent, and the credits for the block's two halves. -/
def preC : sProp 𝕄 := iprop((Crd 3 s c ∗ Pos 3 s c 0) ∗ psP c s.val fullShare.right (PS m c) ∗ outA c (finT c s) ∗ outA (pair c) (finT c s) ∗ outA (xp c) (finT c s)
  ∗ Tok 4 s c ∗ Tok 5 s (pair c) ∗ Tok 6 s c ∗ Tok 7 s (xp c))
def postC : sProp 𝕄 := iprop(Pos 3 s c 1 ∗ psP c s.val fullShare.right (PS m c) ∗ brP c s.val fullShare (PS m (cross c)) ∗ Crd 4 s c ∗ Crd 6 s c)

/-- Phase D, slice `s`: before, the wait for the pair's block, the rows of it at the other x, and the two rights; after, the
    credit for the block's return. -/
def preD : sProp 𝕄 := iprop((Crd 5 s c ∗ Pos 5 s c 0) ∗ outA (xp c) (ofinT c s) ∗ Tok 8 s c ∗ Tok 9 s (xp c))
def postD : sProp 𝕄 := iprop(Pos 5 s c 1 ∗ Crd 8 s c)

/-- The waits of array `k`. -/
def preW (k : Fin 10) : sProp 𝕄 := iprop(Crd k s c ∗ Pos k s c 0)
def postW (k : Fin 10) : sProp 𝕄 := iprop(Pos k s c 1 ∗ dmaPay m c k s)

variable {m}

/-- The wait of array `k` at slice `s`, with nothing owed. -/
theorem stepW {k : Fin 10} {src dst : Memref sig .tc .vmem S64x512 .bf16} {sS : DmaSem sig} (hs : sS = sm k s) (hN : dst.view.dmaCredit = N)
    {h₁ : src.view.WordExact} {h₂ : dst.view.WordExact} {kk : PUnit → Prog (TpuEff nD τ sig (Elt F) Λ₀ .tc) PUnit} {Q : PUnit → sProp 𝕄} :
    iprop(Recs m K ∗ ow c 0 ∗ fam s.val (fun s => preW c s k) (fun s => postW m c s k))
      ⊢ iprop(((ow c 0 ∗ fam (s.val + 1) (fun s => preW c s k) (fun s => postW m c s k)) -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sS src dst h₁ h₂) kk) Q) := by
  iintro ⟨#HR, HO, HF⟩ Hk
  ihave HF := (fam_step _ _ s) $$ HF
  unfold preW
  icases HF with ⟨⟨HC, HP⟩, HF⟩
  iapply (wait_step K c hs hN (Above.zero _)) $$ [HC HO HP]
  · isplitr; · iexact HR
    isplitl [HC]; · iexact HC
    isplitl [HO]; · iexact HO
    iexact HP
  iintro ⟨HO, HP, Hpay⟩
  iapply Hk
  isplitl [HO]; · iexact HO
  iapply HF
  unfold postW
  isplitl [HP]; · iexact HP
  iexact Hpay

/-- Phase A: the copy to the pair. -/
theorem stepA {off off' : Fin 2 → ℕ} {h h'} (e : off = ![64 * othT c s, 0]) (e' : off' = ![64 * s.val, 0]) {n : Dev nD} (hn : n = pair c)
    {sS sR : SemLoc sig} (hs : sS = .dma (sm 0 s)) (hr : sR = .dma (sm 1 s))
    {hh hh' hsc hsrc hdst hsem} {kk : PUnit → Prog (TpuEff nD τ sig (Elt F) Λ₀ .tc) PUnit} {Q : PUnit → sProp 𝕄} :
    iprop(Recs m K ∗ ow c (OO c s.val 0 0 0 0) ∗ fam s.val (preA m c) (postA c))
      ⊢ iprop(((ow c (OO c (s.val + 1) 0 0 0 0) ∗ fam (s.val + 1) (preA m c) (postA c)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma ((Memref.whole cc0_scratch0).slice (Rect.unit (s := S512x512) off S64x512.size h) hh)
              (.remote (n : Thread nD τ) ((Memref.whole cc0_scratch1).slice (Rect.unit (s := S256x512) off' S64x512.size h') hh') sS hsc) sR hsrc hdst hsem) kk) Q) := by
  iintro ⟨#HR, HO, HF⟩ Hk
  ihave HF := (fam_step _ _ s) $$ HF
  unfold preA postA
  icases HF with ⟨⟨HX, ⟨%fd, HD⟩, Ht₁, Ht₂⟩, HF⟩
  iapply (send_step (m := m) K c (src := (Memref.whole cc0_scratch0).slice (Rect.unit (s := S512x512) off S64x512.size h) hh)
    (dst := (Memref.whole cc0_scratch1).slice (Rect.unit (s := S256x512) off' S64x512.size h') hh')
    hn hs hr rfl ((View.set_slice_whole _ _).trans (unit_set e)) ((View.set_slice_whole _ _).trans (unit_set e')) (q := fullShare) (fs := XB m c) (fd := fd)
    (AR m (pair c)) (funext fun x => XB_slice (m := m) c s (h := h) (h' := h') e e' x) (OO c (s.val + 1) 0 0 0 0) (OO_A c s 0 0 0 0)
    (P := xbP c (othT c s) fullShare (XB m c)) (Pd := arP (pair c) s.val fullShare fd) rfl rfl rfl rfl) $$ [HX HD HO Ht₁ Ht₂]
  · isplitr; · iexact HR
    isplitl [HX]; · iexact HX
    isplitl [HD]; · iexact HD
    isplitl [HO]; · iexact HO
    isplitl [Ht₁]; · iexact Ht₁
    iexact Ht₂
  iintro ⟨HC, HO⟩
  iapply Hk
  isplitl [HO]; · iexact HO
  iapply HF
  iexact HC

/-- A sum of two slices is the slice of the sums over the pair. -/
theorem PS_slice {off off' : Fin 2 → ℕ} {h h'} (e : off = ![64 * ownT c s, 0]) (e' : off' = ![64 * s.val, 0]) :
    padd (((Memref.whole cc0_scratch0).access (Rect.unit (s := S512x512) off S64x512.size h)).read (Elt F) (XB m c))
        (((Memref.whole cc0_scratch1).access (Rect.unit (s := S256x512) off' S64x512.size h')).read (Elt F) (AR m c))
      = ((Memref.whole cc0_scratch2).access (Rect.unit (s := S256x512) off' S64x512.size h')).read (Elt F) (PS m c) :=
  funext fun x => padd_apply _ _ (OW m c) (AR m c) x ((Rect.unit (s := S256x512) off' S64x512.size h').emb x) (OW_slice (m := m) c s (h := h) (h' := h') e e' x) rfl

/-- A sum of two slices is the block of the result. -/
theorem OUT_slice {off off' : Fin 2 → ℕ} {h h'} (e : off = ![64 * finT c s, 0]) (e' : off' = ![64 * s.val, 0]) :
    padd (((Memref.whole cc0_scratch2).access (Rect.unit (s := S256x512) off' S64x512.size h')).read (Elt F) (PS m c))
        (((Memref.whole cc0_scratch3).access (Rect.unit (s := S256x512) off' S64x512.size h')).read (Elt F) (PS m (cross c)))
      = ((Memref.whole cc0_stg1_0).access (Rect.unit (s := S1024x512) off S64x512.size h)).read (Elt F) (OUT m c) :=
  funext fun x => (padd_apply _ _ (PS m c) (PS m (cross c)) x ((Rect.unit (s := S256x512) off' S64x512.size h').emb x) rfl rfl).trans
    (FN_slice (m := m) c s (h := h') (h' := h) e' e x)

/-- Two devices hold the same block of the result when one device computes it for both. -/
theorem OUT_same (c' d : Dev nD) {t : ℕ} (h₁ : owner c t = d) (h₂ : owner c' t = d) {off : Fin 2 → ℕ} {h} (e : off = ![64 * t, 0]) (x : S64x512.Idx) :
    OUT m c ((Rect.unit (s := S1024x512) off S64x512.size h).emb x) = OUT m c' ((Rect.unit (s := S1024x512) off S64x512.size h).emb x) :=
  (OUT_block (m := m) c d t h₁ (h := h) e x).trans (OUT_block (m := m) c' d t h₂ (h := h) e x).symm

/-- Phase B: the wait for the pair's rows, the sums, and their copy to the cross. -/
theorem stepB {off off' : Fin 2 → ℕ} {h h'} (e : off = ![64 * ownT c s, 0]) (e' : off' = ![64 * s.val, 0]) {n : Dev nD} (hn : n = cross c)
    {sW : DmaSem sig} {sS sR : SemLoc sig} (hw : sW = sm 1 s) (hs : sS = .dma (sm 2 s)) (hr : sR = .dma (sm 3 s))
    {src dst : Memref sig .tc .vmem S64x512 .bf16} {h₁ : src.view.WordExact} {h₂ : dst.view.WordExact} (hN : dst.view.dmaCredit = N)
    {pay : Vec F S64x512 .bf16 → Vec F S64x512 .bf16 → FVec F S64x512 .bf16} (hpay : ∀ v v', pay v v' = padd v v') {hl₀ hl₁ hl₂ hx hm}
    {hh hh' hsc hsrc hdst hsem} {kk : PUnit → Prog (TpuEff nD τ sig (Elt F) Λ₀ .tc) PUnit} {Q : PUnit → sProp 𝕄} :
    iprop(Recs m K ∗ ow c (OO c 4 s.val 0 0 0) ∗ fam s.val (preB m c) (postB m c))
      ⊢ iprop(((ow c (OO c 4 (s.val + 1) 0 0 0) ∗ fam (s.val + 1) (preB m c) (postB m c)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 sW src dst h₁ h₂) fun _ =>
              .op (.load (Memref.whole cc0_scratch0) (Rect.unit (s := S512x512) off S64x512.size h).toLoadRect hl₀) fun v =>
              .op (.load (Memref.whole cc0_scratch1) (Rect.unit (s := S256x512) off' S64x512.size h').toLoadRect hl₁) fun v' =>
              .op (.load (Memref.whole cc0_scratch2) (Rect.unit (s := S256x512) off' S64x512.size h').toLoadRect hl₂) fun _ =>
              .op (.store (Memref.whole cc0_scratch2) (Rect.unit (s := S256x512) off' S64x512.size h') (pay v v') Finset.univ hx hm) fun _ =>
              .op (.enqueueDma ((Memref.whole cc0_scratch2).slice (Rect.unit (s := S256x512) off' S64x512.size h') hh)
                (.remote (n : Thread nD τ) ((Memref.whole cc0_scratch3).slice (Rect.unit (s := S256x512) off' S64x512.size h') hh') sS hsc) sR hsrc hdst hsem) kk) Q) := by
  have hS (b : ℕ) {h} : (Rect.unit (s := (⟨2, ![b, 512]⟩ : Shape)) off' S64x512.size h).set = rowsOf b s.val := unit_set e'
  iintro ⟨#HR, HO, HF⟩ Hk
  ihave HF := (fam_step _ _ s) $$ HF
  unfold preB
  icases HF with ⟨⟨⟨HC, HP⟩, HX, ⟨%fp, HS⟩, ⟨%fd, HD⟩, Ht₁, Ht₂⟩, HF⟩
  iapply (wait_step K c hw hN (O := OO c 4 s.val 0 0 0) (by
      unfold OO; rw [OFam_end 1]
      exact (Above.zero _).add ((OFam_above _ _ _ _ _ (by decide)).add ((OFam_above _ _ _ _ _ (by decide)).add ((OFam_above _ _ _ _ _ (by decide)).add (OFam_above _ _ _ _ _ (by decide))))))) $$ [HC HO HP]
  · isplitr; · iexact HR
    isplitl [HC]; · iexact HC
    isplitl [HO]; · iexact HO
    iexact HP
  iintro ⟨HO, HP, HA⟩
  ihave HA := (show dmaPay m c 1 s ⊢ arP c s.val fullShare (AR m c) from Entails.of_eq rfl) $$ HA
  iapply (load_step c (M := Memref.whole cc0_scratch0) (r := Rect.unit (s := S512x512) off S64x512.size h) ((View.set_slice_whole _ _).trans (unit_set e)) (q := fullShare) (f := XB m c) (P := xbP c (ownT c s) fullShare (XB m c)) rfl) $$ HX
  iintro HX
  iapply (load_step c (M := Memref.whole cc0_scratch1) (r := Rect.unit (s := S256x512) off' S64x512.size h') ((View.set_slice_whole _ _).trans (hS 256)) (q := fullShare) (f := AR m c) (P := arP c s.val fullShare (AR m c)) rfl) $$ HA
  iintro HA
  iapply (load_step c (M := Memref.whole cc0_scratch2) (r := Rect.unit (s := S256x512) off' S64x512.size h') ((View.set_slice_whole _ _).trans (hS 256)) (q := fullShare) (f := fp) (P := psP c s.val fullShare fp) rfl) $$ HS
  iintro HS
  iapply (store_step c (M := Memref.whole cc0_scratch2) (r := Rect.unit (s := S256x512) off' S64x512.size h') ((View.set_slice_whole _ _).trans (hS 256)) (f := fp) (PS m c) ((hpay _ _).trans (PS_slice (m := m) c s e e'))
    (P := psP c s.val fullShare fp) (P' := psP c s.val fullShare (PS m c)) rfl rfl) $$ HS
  iintro HS
  ihave HS := (show psP c s.val fullShare (PS m c) ⊢ iprop(psP c s.val fullShare.left (PS m c) ∗ psP c s.val fullShare.right (PS m c)) from
    (pointsTo_share (PosShare.mem_left_op_right _)).1) $$ HS
  icases HS with ⟨HSl, HSr⟩
  iapply (send_step (m := m) K c (src := (Memref.whole cc0_scratch2).slice (Rect.unit (s := S256x512) off' S64x512.size h') hh)
    (dst := (Memref.whole cc0_scratch3).slice (Rect.unit (s := S256x512) off' S64x512.size h') hh')
    hn hs hr rfl ((View.set_slice_whole _ _).trans (hS 256)) ((View.set_slice_whole _ _).trans (hS 256)) (q := fullShare.left) (fs := PS m c) (fd := fd)
    (PS m c) rfl (OO c 4 (s.val + 1) 0 0 0) (OO_B c s 4 0 0 0)
    (P := psP c s.val fullShare.left (PS m c)) (Pd := brP (cross c) s.val fullShare fd) rfl rfl rfl
    (show _ = brP (cross c) s.val fullShare (PS m (cross (cross c))) by rw [cross_cross]; rfl)) $$ [HSl HD HO Ht₁ Ht₂]
  · isplitr; · iexact HR
    isplitl [HSl]; · iexact HSl
    isplitl [HD]; · iexact HD
    isplitl [HO]; · iexact HO
    isplitl [Ht₁]; · iexact Ht₁
    iexact Ht₂
  iintro ⟨HC, HO⟩
  iapply Hk
  isplitl [HO]; · iexact HO
  iapply HF
  unfold postB
  isplitl [HP]; · iexact HP
  isplitl [HX]; · iexact HX
  isplitl [HA]; · iexact HA
  isplitl [HSr]; · iexact HSr
  iexact HC

/-- Phase C: the wait for the cross's sums, the block of the result, and its copies to the pair and to the other x. -/
theorem stepC {off off' off₂ : Fin 2 → ℕ} {h h' hb} (e : off = ![64 * finT c s, 0]) (e' : off' = ![64 * s.val, 0]) (e₂ : off₂ = ![64 * finT c s, 0])
    {n n' : Dev nD} (hn : n = pair c) (hn' : n' = xp c) {sW : DmaSem sig} {sS sR sS' sR' : SemLoc sig} (hw : sW = sm 3 s)
    (hs : sS = .dma (sm 4 s)) (hr : sR = .dma (sm 5 s)) (hs' : sS' = .dma (sm 6 s)) (hr' : sR' = .dma (sm 7 s))
    {src dst : Memref sig .tc .vmem S64x512 .bf16} {h₁ : src.view.WordExact} {h₂ : dst.view.WordExact} (hN : dst.view.dmaCredit = N)
    {pay : Vec F S64x512 .bf16 → Vec F S64x512 .bf16 → FVec F S64x512 .bf16} (hpay : ∀ v v', pay v v' = padd v v') {hl₀ hl₁ hl₂ hx hm}
    {hh hh' hsc hsrc hdst hsem g g' gsc gsrc gdst gsem} {kk : PUnit → Prog (TpuEff nD τ sig (Elt F) Λ₀ .tc) PUnit} {Q : PUnit → sProp 𝕄} :
    iprop(Recs m K ∗ ow c (OO c 4 4 s.val s.val 0) ∗ fam s.val (preC m c) (postC m c))
      ⊢ iprop(((ow c (OO c 4 4 (s.val + 1) (s.val + 1) 0) ∗ fam (s.val + 1) (preC m c) (postC m c)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 sW src dst h₁ h₂) fun _ =>
              .op (.load (Memref.whole cc0_scratch2) (Rect.unit (s := S256x512) off' S64x512.size h').toLoadRect hl₀) fun v =>
              .op (.load (Memref.whole cc0_scratch3) (Rect.unit (s := S256x512) off' S64x512.size h').toLoadRect hl₁) fun v' =>
              .op (.load (Memref.whole cc0_stg1_0) (Rect.unit (s := S1024x512) off S64x512.size h).toLoadRect hl₂) fun _ =>
              .op (.store (Memref.whole cc0_stg1_0) (Rect.unit (s := S1024x512) off S64x512.size h) (pay v v') Finset.univ hx hm) fun _ =>
              .op (.enqueueDma ((Memref.whole cc0_stg1_0).slice (Rect.unit (s := S1024x512) off₂ S64x512.size hb) hh)
                (.remote (n : Thread nD τ) ((Memref.whole cc0_stg1_0).slice (Rect.unit (s := S1024x512) off₂ S64x512.size hb) hh') sS hsc) sR hsrc hdst hsem) fun _ =>
              .op (.enqueueDma ((Memref.whole cc0_stg1_0).slice (Rect.unit (s := S1024x512) off₂ S64x512.size hb) g)
                (.remote (n' : Thread nD τ) ((Memref.whole cc0_stg1_0).slice (Rect.unit (s := S1024x512) off₂ S64x512.size hb) g') sS' gsc) sR' gsrc gdst gsem) kk) Q) := by
  have hS {h} : (Rect.unit (s := S256x512) off' S64x512.size h).set = rowsOf 256 s.val := unit_set e'
  iintro ⟨#HR, HO, HF⟩ Hk
  ihave HF := (fam_step _ _ s) $$ HF
  unfold preC
  icases HF with ⟨⟨⟨HC, HP⟩, HS, ⟨%fo, HV⟩, ⟨%fd, HD⟩, ⟨%fd', HD'⟩, Ht₁, Ht₂, Ht₃, Ht₄⟩, HF⟩
  iapply (wait_step K c hw hN (O := OO c 4 4 s.val s.val 0) (by
      unfold OO; rw [OFam_end 1, OFam_end 3]
      exact (Above.zero _).add ((Above.zero _).add ((OFam_above _ _ _ _ _ (by decide)).add ((OFam_above _ _ _ _ _ (by decide)).add (OFam_above _ _ _ _ _ (by decide))))))) $$ [HC HO HP]
  · isplitr; · iexact HR
    isplitl [HC]; · iexact HC
    isplitl [HO]; · iexact HO
    iexact HP
  iintro ⟨HO, HP, HB⟩
  ihave HB := (show dmaPay m c 3 s ⊢ brP c s.val fullShare (PS m (cross c)) from Entails.of_eq rfl) $$ HB
  iapply (load_step c (M := Memref.whole cc0_scratch2) (r := Rect.unit (s := S256x512) off' S64x512.size h') ((View.set_slice_whole _ _).trans hS)
    (q := fullShare.right) (f := PS m c) (P := psP c s.val fullShare.right (PS m c)) rfl) $$ HS
  iintro HS
  iapply (load_step c (M := Memref.whole cc0_scratch3) (r := Rect.unit (s := S256x512) off' S64x512.size h') ((View.set_slice_whole _ _).trans hS)
    (q := fullShare) (f := PS m (cross c)) (P := brP c s.val fullShare (PS m (cross c))) rfl) $$ HB
  iintro HB
  iapply (load_step c (M := Memref.whole cc0_stg1_0) (r := Rect.unit (s := S1024x512) off S64x512.size h) ((View.set_slice_whole _ _).trans (unit_set e))
    (q := fullShare) (f := fo) (P := outP c (finT c s) fullShare fo) rfl) $$ HV
  iintro HV
  iapply (store_step c (M := Memref.whole cc0_stg1_0) (r := Rect.unit (s := S1024x512) off S64x512.size h) ((View.set_slice_whole _ _).trans (unit_set e))
    (f := fo) (OUT m c) ((hpay _ _).trans (OUT_slice (m := m) c s e e')) (P := outP c (finT c s) fullShare fo) (P' := outP c (finT c s) fullShare (OUT m c)) rfl rfl) $$ HV
  iintro HV
  ihave HV := (show outP c (finT c s) fullShare (OUT m c) ⊢ iprop(outP c (finT c s) fullShare.left (OUT m c) ∗ outP c (finT c s) fullShare.right (OUT m c)) from
    (pointsTo_share (PosShare.mem_left_op_right _)).1) $$ HV
  icases HV with ⟨HVl, HVr⟩
  iapply (send_step (m := m) K c (src := (Memref.whole cc0_stg1_0).slice (Rect.unit (s := S1024x512) off₂ S64x512.size hb) hh)
    (dst := (Memref.whole cc0_stg1_0).slice (Rect.unit (s := S1024x512) off₂ S64x512.size hb) hh')
    hn hs hr rfl ((View.set_slice_whole _ _).trans (unit_set e₂)) ((View.set_slice_whole _ _).trans (unit_set e₂)) (q := fullShare.left) (fs := OUT m c) (fd := fd)
    (OUT m (pair c)) (funext fun x => OUT_same (m := m) c (pair c) c (owner_finT c s) (owner_pair_finT c s) (h := hb) e₂ x)
    (OO c 4 4 (s.val + 1) s.val 0) (OO_C c s 4 4 s.val 0)
    (P := outP c (finT c s) fullShare.left (OUT m c)) (Pd := outP (pair c) (finT c s) fullShare fd) rfl rfl rfl
    (show _ = outP (pair c) (ofinT (pair c) s) fullShare (OUT m (pair c)) by rw [ofinT_pair]; rfl)) $$ [HVl HD HO Ht₁ Ht₂]
  · isplitr; · iexact HR
    isplitl [HVl]; · iexact HVl
    isplitl [HD]; · iexact HD
    isplitl [HO]; · iexact HO
    isplitl [Ht₁]; · iexact Ht₁
    iexact Ht₂
  iintro ⟨HC, HO⟩
  iapply (send_step (m := m) K c (src := (Memref.whole cc0_stg1_0).slice (Rect.unit (s := S1024x512) off₂ S64x512.size hb) g)
    (dst := (Memref.whole cc0_stg1_0).slice (Rect.unit (s := S1024x512) off₂ S64x512.size hb) g')
    hn' hs' hr' rfl ((View.set_slice_whole _ _).trans (unit_set e₂)) ((View.set_slice_whole _ _).trans (unit_set e₂)) (q := fullShare.right) (fs := OUT m c) (fd := fd')
    (OUT m (xp c)) (funext fun x => OUT_same (m := m) c (xp c) c (owner_finT c s) (owner_xp_finT c s) (h := hb) e₂ x)
    (OO c 4 4 (s.val + 1) (s.val + 1) 0) (OO_XB c s 4 4 (s.val + 1) 0)
    (P := outP c (finT c s) fullShare.right (OUT m c)) (Pd := outP (xp c) (finT c s) fullShare fd') rfl rfl rfl
    (show _ = outP (xp c) (finT (xp (xp c)) s) fullShare (OUT m (xp c)) by rw [xp_xp]; rfl)) $$ [HVr HD' HO Ht₃ Ht₄]
  · isplitr; · iexact HR
    isplitl [HVr]; · iexact HVr
    isplitl [HD']; · iexact HD'
    isplitl [HO]; · iexact HO
    isplitl [Ht₃]; · iexact Ht₃
    iexact Ht₄
  iintro ⟨HC', HO⟩
  iapply Hk
  isplitl [HO]; · iexact HO
  iapply HF
  unfold postC
  isplitl [HP]; · iexact HP
  isplitl [HS]; · iexact HS
  isplitl [HB]; · iexact HB
  isplitl [HC]; · iexact HC
  iexact HC'

/-- Phase D: the wait for the pair's block, and its copy to the other x. -/
theorem stepD {off : Fin 2 → ℕ} {h} (e : off = ![64 * ofinT c s, 0]) {n : Dev nD} (hn : n = xp c)
    {sW : DmaSem sig} {sS sR : SemLoc sig} (hw : sW = sm 5 s) (hs : sS = .dma (sm 8 s)) (hr : sR = .dma (sm 9 s))
    {src dst : Memref sig .tc .vmem S64x512 .bf16} {h₁ : src.view.WordExact} {h₂ : dst.view.WordExact} (hN : dst.view.dmaCredit = N)
    {hh hh' hsc hsrc hdst hsem} {kk : PUnit → Prog (TpuEff nD τ sig (Elt F) Λ₀ .tc) PUnit} {Q : PUnit → sProp 𝕄} :
    iprop(Recs m K ∗ ow c (OO c 4 4 4 4 s.val) ∗ fam s.val (preD c) (postD c))
      ⊢ iprop(((ow c (OO c 4 4 4 4 (s.val + 1)) ∗ fam (s.val + 1) (preD c) (postD c)) -∗ wp frame (wpE (defs₀ (F := F)) 𝒱₀ (c : Thread nD τ) none) Set.univ (kk ⟨⟩) Q)
        -∗ wp frame (wpE (defs₀ (F := F)) 𝒱₀ (c : Thread nD τ) none) Set.univ
            (.op (.waitDma2 sW src dst h₁ h₂) fun _ =>
              .op (.enqueueDma ((Memref.whole cc0_stg1_0).slice (Rect.unit (s := S1024x512) off S64x512.size h) hh)
                (.remote (n : Thread nD τ) ((Memref.whole cc0_stg1_0).slice (Rect.unit (s := S1024x512) off S64x512.size h) hh') sS hsc) sR hsrc hdst hsem) kk) Q) := by
  iintro ⟨#HR, HO, HF⟩ Hk
  ihave HF := (fam_step _ _ s) $$ HF
  unfold preD
  icases HF with ⟨⟨⟨HC, HP⟩, ⟨%fd, HD⟩, Ht₁, Ht₂⟩, HF⟩
  iapply (wait_step K c hw hN (O := OO c 4 4 4 4 s.val) (by
      unfold OO; rw [OFam_end 1, OFam_end 3, OFam_end 5, OFam_end 7]
      exact (Above.zero _).add ((Above.zero _).add ((Above.zero _).add ((Above.zero _).add (OFam_above _ _ _ _ _ (by decide))))))) $$ [HC HO HP]
  · isplitr; · iexact HR
    isplitl [HC]; · iexact HC
    isplitl [HO]; · iexact HO
    iexact HP
  iintro ⟨HO, HP, HV⟩
  ihave HV := (show dmaPay m c 5 s ⊢ outP c (ofinT c s) fullShare (OUT m c) from Entails.of_eq rfl) $$ HV
  iapply (send_step (m := m) K c (src := (Memref.whole cc0_stg1_0).slice (Rect.unit (s := S1024x512) off S64x512.size h) hh)
    (dst := (Memref.whole cc0_stg1_0).slice (Rect.unit (s := S1024x512) off S64x512.size h) hh')
    hn hs hr rfl ((View.set_slice_whole _ _).trans (unit_set e)) ((View.set_slice_whole _ _).trans (unit_set e)) (q := fullShare) (fs := OUT m c) (fd := fd)
    (OUT m (xp c)) (funext fun x => OUT_same (m := m) c (xp c) (pair c) (owner_ofinT c s) (owner_xp_ofinT c s) (h := h) e x)
    (OO c 4 4 4 4 (s.val + 1)) (OO_XC c s 4 4 4 4)
    (P := outP c (ofinT c s) fullShare (OUT m c)) (Pd := outP (xp c) (ofinT c s) fullShare fd) rfl rfl rfl
    (show _ = outP (xp c) (ofinT (xp (xp c)) s) fullShare (OUT m (xp c)) by rw [xp_xp]; rfl)) $$ [HV HD HO Ht₁ Ht₂]
  · isplitr; · iexact HR
    isplitl [HV]; · iexact HV
    isplitl [HD]; · iexact HD
    isplitl [HO]; · iexact HO
    isplitl [Ht₁]; · iexact Ht₁
    iexact Ht₂
  iintro ⟨HC, HO⟩
  iapply Hk
  isplitl [HO]; · iexact HO
  iapply HF
  unfold postD
  isplitl [HP]; · iexact HP
  iexact HC

end Phases

end Cert.KernelIdeal.Hand

end
-- ==== Proof.KernelIdealPieces.lean ====
/- Whole buffers as families of blocks, and the phases' families as separate families.

   A buffer is the star of its blocks of 64 rows, in whichever order the phases use them;
   a phase's family over the slices is the star of one family for each thing it holds. -/
module

public import proofs.«01_k».proof.Proof.KernelIdealPhases

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A family over the four slices. -/
abbrev all (Φ : Fin 4 → sProp 𝕄) : sProp 𝕄 := bigSep Finset.univ Φ

theorem fin2 (Φ : Fin 2 → sProp 𝕄) : bigSep Finset.univ Φ = iprop(Φ 0 ∗ Φ 1) := bigSep_univ_eq_bigSepL [(0 : Fin 2), 1] (by decide) (by decide) Φ
theorem fin3 (Φ : Fin 3 → sProp 𝕄) : bigSep Finset.univ Φ = iprop(Φ 0 ∗ Φ 1 ∗ Φ 2) := bigSep_univ_eq_bigSepL [(0 : Fin 3), 1, 2] (by decide) (by decide) Φ
theorem fin4 (Φ : Fin 4 → sProp 𝕄) : bigSep Finset.univ Φ = iprop(Φ 0 ∗ Φ 1 ∗ Φ 2 ∗ Φ 3) := bigSep_univ_eq_bigSepL [(0 : Fin 4), 1, 2, 3] (by decide) (by decide) Φ
theorem fin10 (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

/-- A phase's family before its first step and after its last. -/
theorem fam_none (A B : Fin 4 → sProp 𝕄) : fam 0 A B = all A := fam_zero A B
theorem fam_all (A B : Fin 4 → sProp 𝕄) : fam 4 A B = all B := fam_four A B

/-! ## A buffer and its blocks -/

/-- Blocks that together have every number up to `k` cover an array of 64·k rows. -/
theorem cover {ι : Type} [Fintype ι] {n : ℕ} (k : ℕ) (hn : n = 64 * k) (T : ι → ℕ) (hT : ∀ t : Fin k, ∃ i, T i = t.val) :
    (Finset.univ : Finset (⟨2, ![n, 512]⟩ : Shape).Idx) = Finset.univ.biUnion fun i => rowsOf n (T i) :=
  (Finset.eq_univ_of_forall fun x => by
    have hx := row_lt x
    obtain ⟨i, hi⟩ := hT ⟨row x / 64, by omega⟩
    exact Finset.mem_biUnion.mpr ⟨i, Finset.mem_univ i, mem_rowsOf.mpr hi.symm⟩).symm

theorem apart {ι : Type} [Fintype ι] (n : ℕ) (T : ι → ℕ) (hT : Function.Injective T) :
    ∀ i ∈ (Finset.univ : Finset ι), ∀ i' ∈ (Finset.univ : Finset ι), i ≠ i' → Disjoint (rowsOf n (T i)) (rowsOf n (T i')) :=
  fun _ _ _ _ h => rowsOf_disjoint n fun h' => h (hT h')

/-- The blocks of `xb`: the quarter that goes to the pair, and the device's own. -/
def xbT (c : Dev nD) (bs : Fin 2 × Fin 4) : ℕ := (![othT c, ownT c] : Fin 2 → Fin 4 → ℕ) bs.1 bs.2
/-- The blocks of the result: the device's own, its pair's, and those of the two at the other x. -/
def outT (c : Dev nD) (bs : Fin 4 × Fin 4) : ℕ := (![finT c, ofinT c, finT (xp c), ofinT (xp c)] : Fin 4 → Fin 4 → ℕ) bs.1 bs.2

theorem xbT_inj : ∀ c, Function.Injective (xbT c) := by decide +kernel
theorem xbT_surj : ∀ c, ∀ t : Fin 8, ∃ i, xbT c i = t.val := by decide +kernel
theorem outT_inj : ∀ c, Function.Injective (outT c) := by decide +kernel
theorem outT_surj : ∀ c, ∀ t : Fin 16, ∃ i, outT c i = t.val := by decide +kernel
theorem val_inj : Function.Injective fun s : Fin 4 => s.val := fun _ _ h => Fin.ext h
theorem val_surj : ∀ t : Fin 4, ∃ i : Fin 4, i.val = t.val := fun t => ⟨t, rfl⟩

section Blocks

variable (c : Dev nD)

theorem xb_blocks (f : Vec F S512x512 .bf16) :
    (((c : Thread nD τ).loc cc0_scratch0) ↦{fullShare} f : sProp 𝕄)
      = iprop(all (fun s => xbP c (othT c s) fullShare f) ∗ all fun s => xbP c (ownT c s) fullShare f) := by
  show (((c : Thread nD τ).loc cc0_scratch0) ↦[(Finset.univ : Finset (⟨2, ![512, 512]⟩ : Shape).Idx)]{fullShare} f : sProp 𝕄) = _
  rw [cover 8 rfl (xbT c) (xbT_surj c)]
  refine (pointsTo_biUnion _ _ (apart 512 (xbT c) (xbT_inj c))).trans ?_
  rw [bigSep_univ_prod, fin2]
  rfl

theorem ar_blocks (f : Vec F S256x512 .bf16) :
    (((c : Thread nD τ).loc cc0_scratch1) ↦{fullShare} f : sProp 𝕄) = all fun s => arP c s.val fullShare f := by
  show (((c : Thread nD τ).loc cc0_scratch1) ↦[(Finset.univ : Finset (⟨2, ![256, 512]⟩ : Shape).Idx)]{fullShare} f : sProp 𝕄) = _
  rw [cover 4 rfl (fun s : Fin 4 => s.val) val_surj]
  exact pointsTo_biUnion _ _ (apart 256 _ val_inj)
theorem ps_blocks (q : PosShare TreeShare) (f : Vec F S256x512 .bf16) :
    (((c : Thread nD τ).loc cc0_scratch2) ↦{q} f : sProp 𝕄) = all fun s => psP c s.val q f := by
  show (((c : Thread nD τ).loc cc0_scratch2) ↦[(Finset.univ : Finset (⟨2, ![256, 512]⟩ : Shape).Idx)]{q} f : sProp 𝕄) = _
  rw [cover 4 rfl (fun s : Fin 4 => s.val) val_surj]
  exact pointsTo_biUnion _ _ (apart 256 _ val_inj)
theorem br_blocks (f : Vec F S256x512 .bf16) :
    (((c : Thread nD τ).loc cc0_scratch3) ↦{fullShare} f : sProp 𝕄) = all fun s => brP c s.val fullShare f := by
  show (((c : Thread nD τ).loc cc0_scratch3) ↦[(Finset.univ : Finset (⟨2, ![256, 512]⟩ : Shape).Idx)]{fullShare} f : sProp 𝕄) = _
  rw [cover 4 rfl (fun s : Fin 4 => s.val) val_surj]
  exact pointsTo_biUnion _ _ (apart 256 _ val_inj)

theorem out_blocks (f : Vec F S1024x512 .bf16) :
    (((c : Thread nD τ).loc cc0_stg1_0) ↦{fullShare} f : sProp 𝕄)
      = iprop(all (fun s => outP c (finT c s) fullShare f) ∗ all (fun s => outP c (ofinT c s) fullShare f)
        ∗ all (fun s => outP c (finT (xp c) s) fullShare f) ∗ all fun s => outP c (ofinT (xp c) s) fullShare f) := by
  show (((c : Thread nD τ).loc cc0_stg1_0) ↦[(Finset.univ : Finset (⟨2, ![1024, 512]⟩ : Shape).Idx)]{fullShare} f : sProp 𝕄) = _
  rw [cover 16 rfl (outT c) (outT_surj c)]
  refine (pointsTo_biUnion _ _ (apart 1024 (outT c) (outT_inj c))).trans ?_
  rw [bigSep_univ_prod, fin4]
  rfl

/-- Some contents of each piece. -/
theorem some_of {α : Type} (P : α → sProp 𝕄) (a : α) : P a ⊢ iprop(∃ x, P x) := by
  iintro H; iexists a; iexact H
theorem ar_some (f : Vec F S256x512 .bf16) : all (fun s => arP c s.val fullShare f) ⊢ all fun s => arA (F := F) c s.val := bigSep_mono fun _ _ => some_of (fun f => arP c _ fullShare f) f
theorem ps_some (f : Vec F S256x512 .bf16) : all (fun s => psP c s.val fullShare f) ⊢ all fun s => psA (F := F) c s.val := bigSep_mono fun _ _ => some_of (fun f => psP c _ fullShare f) f
theorem br_some (f : Vec F S256x512 .bf16) : all (fun s => brP c s.val fullShare f) ⊢ all fun s => brA (F := F) c s.val := bigSep_mono fun _ _ => some_of (fun f => brP c _ fullShare f) f
theorem out_some (T : Fin 4 → ℕ) (f : Vec F S1024x512 .bf16) : all (fun s => outP c (T s) fullShare f) ⊢ all fun s => outA (F := F) c (T s) := bigSep_mono fun _ _ => some_of (fun f => outP c _ fullShare f) f

/-- Two halves of a piece are the piece. -/
theorem ps_join (f : Vec F S256x512 .bf16) : iprop(all (fun s => psP c s.val fullShare.left f) ∗ all fun s => psP c s.val fullShare.right f) ⊢ all fun s => psP c s.val fullShare f := by
  rw [← bigSep_sep']
  exact bigSep_mono fun _ _ => (pointsTo_share (PosShare.mem_left_op_right _)).2
theorem out_join (T : Fin 4 → ℕ) (f : Vec F S1024x512 .bf16) :
    iprop(all (fun s => outP c (T s) fullShare.left f) ∗ all fun s => outP c (T s) fullShare.right f) ⊢ all fun s => outP c (T s) fullShare f := by
  rw [← bigSep_sep']
  exact bigSep_mono fun _ _ => (pointsTo_share (PosShare.mem_left_op_right _)).2

end Blocks

/-! ## The phases' families -/

section Families

variable (m : (ℓ : Loc nD τ sig) → Buf (Elt F) ℓ) (c : Dev nD)

theorem preA_all : all (preA m c) = iprop(all (fun s => xbP c (othT c s) fullShare (XB m c)) ∗ all (fun s => arA (F := F) (pair c) s.val) ∗ all (fun s => Tok 0 s c) ∗ all fun s => Tok 1 s (pair c)) := by
  unfold all preA; simp only [bigSep_sep']
theorem preB_all : all (preB m c) = iprop((all (fun s => Crd 1 s c) ∗ all fun s => Pos 1 s c 0) ∗ all (fun s => xbP c (ownT c s) fullShare (XB m c)) ∗ all (fun s => psA (F := F) c s.val)
    ∗ all (fun s => brA (F := F) (cross c) s.val) ∗ all (fun s => Tok 2 s c) ∗ all fun s => Tok 3 s (cross c)) := by
  unfold all preB; simp only [bigSep_sep']
theorem postB_all : all (postB m c) = iprop(all (fun s => Pos 1 s c 1) ∗ all (fun s => xbP c (ownT c s) fullShare (XB m c)) ∗ all (fun s => arP c s.val fullShare (AR m c))
    ∗ all (fun s => psP c s.val fullShare.right (PS m c)) ∗ all fun s => Crd 2 s c) := by
  unfold all postB; simp only [bigSep_sep']
theorem preC_all : all (preC m c) = iprop((all (fun s => Crd 3 s c) ∗ all fun s => Pos 3 s c 0) ∗ all (fun s => psP c s.val fullShare.right (PS m c))
    ∗ all (fun s => outA (F := F) c (finT c s)) ∗ all (fun s => outA (F := F) (pair c) (finT c s)) ∗ all (fun s => outA (F := F) (xp c) (finT c s))
    ∗ all (fun s => Tok 4 s c) ∗ all (fun s => Tok 5 s (pair c)) ∗ all (fun s => Tok 6 s c) ∗ all fun s => Tok 7 s (xp c)) := by
  unfold all preC; simp only [bigSep_sep']
theorem postC_all : all (postC m c) = iprop(all (fun s => Pos 3 s c 1) ∗ all (fun s => psP c s.val fullShare.right (PS m c)) ∗ all (fun s => brP c s.val fullShare (PS m (cross c)))
    ∗ all (fun s => Crd 4 s c) ∗ all fun s => Crd 6 s c) := by
  unfold all postC; simp only [bigSep_sep']
theorem preD_all : all (preD (F := F) c) = iprop((all (fun s => Crd 5 s c) ∗ all fun s => Pos 5 s c 0) ∗ all (fun s => outA (F := F) (xp c) (ofinT c s)) ∗ all (fun s => Tok 8 s c) ∗ all fun s => Tok 9 s (xp c)) := by
  unfold all preD; simp only [bigSep_sep']
theorem postD_all : all (postD (F := F) c) = iprop(all (fun s => Pos 5 s c 1) ∗ all fun s => Crd 8 s c) := by
  unfold all postD; simp only [bigSep_sep']
theorem preW_all (k : Fin 10) : all (fun s => preW (F := F) c s k) = iprop(all (fun s => Crd k s c) ∗ all fun s => Pos k s c 0) := by
  unfold all preW; simp only [bigSep_sep']
theorem postW_all (k : Fin 10) : all (fun s => postW m c s k) = iprop(all (fun s => Pos k s c 1) ∗ all fun s => dmaPay m c k s) := by
  unfold all postW; simp only [bigSep_sep']

end Families

end Cert.KernelIdeal.Hand

end
-- ==== Proof.KernelIdealStart.lean ====
/- What a device holds when the body starts and when it ends, and the steps of the barrier. -/
module

public import proofs.«01_k».proof.Proof.KernelIdealPieces

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a device holds at the start of the body and at its end -/

/-- The device that makes the copies on the cells of array `k` of device `c`, seen from the maker:
    a device pays the cells of its own even arrays and those of its partners' odd ones. -/
def tgt (k : Fin 10) (c : Dev nD) : Dev nD := (![c, pair c, c, cross c, c, pair c, c, xp c, c, xp c] : Fin 10 → Dev nD) k
/-- The devices it signals. -/
def btgt (d : Fin 3) (c : Dev nD) : Dev nD := (![pair c, cross c, xp c] : Fin 3 → Dev nD) d

/-- What device `c` owes from the launch. -/
def O₀ (c : Dev nD) : CellTallies nD τ sig Unit :=
  OO c 0 0 0 0 0 + tallyAt (bar (xp c)) () 1 + tallyAt (bar (cross c)) () 1 + tallyAt (bar (pair c)) () 1

abbrev BPos (c : Dev nD) (R : ℕ) : sProp 𝕄 := atPos ER (bar c) R (∅ : Finset (Fin 3)) 0
abbrev BTok (d : Fin 3) (c : Dev nD) : sProp 𝕄 := dutyTok ER (bar c) 0 d

/-- The positions of its cells and the rights to what it pays. -/
def lin (c : Dev nD) : sProp 𝕄 :=
  iprop(BPos c 0 ∗ (bigSep Finset.univ fun k : Fin 10 => all fun s => Pos k s c 0)
    ∗ (bigSep Finset.univ fun k : Fin 10 => all fun s => Tok k s (tgt k c)) ∗ bigSep Finset.univ fun d : Fin 3 => BTok d (btgt d c))
/-- The credits its waits spend. -/
def creds (c : Dev nD) : sProp 𝕄 :=
  iprop(cred (tallyAt (bar c) () 3) ∗ all (fun s => Crd 1 s c) ∗ all (fun s => Crd 3 s c) ∗ all (fun s => Crd 5 s c) ∗ all (fun s => Crd 7 s c) ∗ all fun s => Crd 9 s c)
/-- The scratch buffers, at any contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))
/-- Its semaphores at zero. -/
def sems (c : Dev nD) : sProp 𝕄 := bigSep Finset.univ fun ks : Fin 10 × Fin 4 => semVal (cl ks.1 ks.2 c) 0

/-! ## What the body computes -/

theorem pay1_eq (v : Vec F S512x512 .bf16) : k0_pay1 v = v :=
  (shapeCast_self (s := S512x512) (shapeCast S512x512 v shapeCasts_S512x512_S512x512) _).trans (shapeCast_self (s := S512x512) v _)
theorem pay2_eq (v v' : Vec F S64x512 .bf16) : k0_pay2 v v' = padd v v' := shapeCast_self (s := S64x512) (padd v v') _
theorem pay3_eq (v v' : Vec F S64x512 .bf16) : k0_pay3 v v' = padd v v' := shapeCast_self (s := S64x512) (padd v v') _
theorem pay4_eq (v v' : Vec F S64x512 .bf16) : k0_pay4 v v' = padd v v' := shapeCast_self (s := S64x512) (padd v v') _
theorem pay5_eq (v v' : Vec F S64x512 .bf16) : k0_pay5 v v' = padd v v' := shapeCast_self (s := S64x512) (padd v v') _
theorem pay6_eq (v v' : Vec F S64x512 .bf16) : k0_pay6 v v' = padd v v' := rfl
theorem pay7_eq (v v' : Vec F S64x512 .bf16) : k0_pay7 v v' = padd v v' := rfl
theorem pay8_eq (v v' : Vec F S64x512 .bf16) : k0_pay8 v v' = padd v v' := rfl
theorem pay9_eq (v v' : Vec F S64x512 .bf16) : k0_pay10 (k0_pay9 v) v' = padd v v' := rfl

/-- What a device hands over with its three signals: its own buffers. -/
theorem barPay_pair (c : Dev nD) : barPay (F := F) (pair c) 0 = iprop(all (fun s => arA (F := F) c s.val) ∗ all fun s => outA (F := F) c (ofinT c s)) := by
  unfold barPay; simp only [pair_pair, finT_pair]
theorem barPay_cross (c : Dev nD) : barPay (F := F) (cross c) 1 = all fun s => brA (F := F) c s.val := by
  unfold barPay; simp only [cross_cross]
theorem barPay_xp (c : Dev nD) : barPay (F := F) (xp c) 2 = iprop(all (fun s => outA (F := F) c (finT (xp c) s)) ∗ all fun s => outA (F := F) c (ofinT (xp c) s)) := by
  unfold barPay; simp only [xp_xp]

section Steps

variable (m : (ℓ : Loc nD τ sig) → Buf (Elt F) ℓ) (K : Cell → ℕ) (c : Dev nD)

/-- A signal of the barrier, with what it hands over. -/
theorem signal_step {n c' : Dev nD} (hn : n = c') {d : Fin 3} {sem : Sem sig} (hs : sem = barrier0) {k' : ℤ} (hk : ((1 : ℕ) : ℤ) = k')
    {O₁ : CellTallies nD τ sig Unit} (O : CellTallies nD τ sig Unit) (hO : O₁ = O + tallyAt (bar c') () 1)
    {k : PUnit → Prog (TpuEff nD τ sig (Elt F) Λ₀ .tc) PUnit} {Q : PUnit → sProp 𝕄} :
    iprop(Recs m K ∗ ow c O₁ ∗ BTok d c' ∗ barPay (F := F) c' d)
      ⊢ iprop((ow c O -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (n : Thread nD τ) sem k') k) Q) := by
  subst hn hs hk
  unfold ow
  iintro ⟨#HR, ⟨%W, HO⟩, Ht, Hp⟩ Hk
  ihave #H₁ := (recs_at m K (n, none)) $$ HR
  icases H₁ with ⟨#HI, #Hr⟩
  iapply (Rounds.wp_signal 𝒱₀ ER (Rd m) (c : Thread nD τ) none (dst := (n : Thread nD τ)) (κ := K (n, none)) (r := 0) (d := d)
      (by rw [show (Rd m).duties ((n : Thread nD τ), SemLoc.reg barrier0) 0 = Finset.univ from duties_bar m n]; exact Finset.mem_univ _) rfl () O hO (W := W)) $$ [HO Ht Hp]
  · isplitr; · iexact HI
    isplitl [HO]; · iexact HO
    isplitl [Ht]; · iexact Ht
    isplitl [Hp]; · iapply (Entails.of_eq (payload_bar m n 0 d).symm); iexact Hp
    iexact Hr
  iintro HO
  iapply Hk
  iexists W
  iexact HO

/-- The wait of the barrier, with everything owed for the copies: what the three partners hand over comes. -/
theorem barrier_step {sem : Sem sig} (hs : sem = barrier0) {k' : ℤ} (hk : ((3 : ℕ) : ℤ) = k')
    {k : PUnit → Prog (TpuEff nD τ sig (Elt F) Λ₀ .tc) PUnit} {Q : PUnit → sProp 𝕄} :
    iprop(Recs m K ∗ cred (tallyAt (bar c) () 3) ∗ ow c (OO c 0 0 0 0 0) ∗ BPos c 0)
      ⊢ iprop(((ow c (OO c 0 0 0 0 0) ∗ BPos c 1 ∗ barPay (F := F) c 0 ∗ barPay (F := F) c 1 ∗ barPay (F := F) c 2)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait sem k') k) Q) := by
  subst hs hk
  unfold ow
  iintro ⟨#HR, HC, ⟨%W, HO⟩, HP⟩ Hk
  ihave #H₁ := (recs_at m K (c, none)) $$ HR
  icases H₁ with ⟨#HI, -⟩
  ihave #HL := (recs_lev m K) $$ HR
  iapply (Rounds.wp_wait_rest_token 𝒱₀ ER (Rd m) (c : Thread nD τ) none (κ := K (c, none))
      (wpE_semWait_eq 𝒱₀ (c : Thread nD τ) none Set.univ) (Set.mem_univ _) () (O := OO c 0 0 0 0 0) (W := W) (R := 0) (m := 0) (T := ∅)
      (by rw [Nat.zero_add]; exact (expect_bar m c).symm)) $$ [HC HO HP]
  · isplitr; · iexact HI
    isplitl [HC]; · iexact HC
    isplitl [HO]; · iexact HO
    isplitr
    · iapply (mayWait c (.reg barrier0) 1 (Nat.le_refl _) (by
        unfold OO
        exact (OFam_above _ _ _ _ _ (by decide)).add ((OFam_above _ _ _ _ _ (by decide)).add ((OFam_above _ _ _ _ _ (by decide)).add
          ((OFam_above _ _ _ _ _ (by decide)).add (OFam_above _ _ _ _ _ (by decide))))))); iexact HL
    iexact HP
  iintro ⟨HO, HP, -, Hpay⟩
  ihave Hpay := (Entails.of_eq (rest_bar m c)) $$ Hpay
  iapply Hk
  isplitl [HO]; · iexists _; iexact HO
  isplitl [HP]; · iexact HP
  iexact Hpay

/-- The rows of the argument that the body loads are the half that its x keeps. -/
theorem xb_load {h} : ((Memref.whole cc0_stg0_0).access (Rect.unit (s := S1024x512) (k0_off1 c) S512x512.size h)).read (Elt F) (xstg m c) = XB m c :=
  funext fun x => by
    show xstg m c ((Rect.unit (s := S1024x512) (k0_off1 c) S512x512.size h).emb x) = _
    unfold XB
    refine congrArg _ (idx_ext ?_ ?_)
    · have hx := row_lt x
      have hh := half_lt c
      rw [ix_row]
      show k0_off1 c 0 + 1 * row x = _
      rw [off1_eq']
      show 512 * half c + 1 * row x = _
      omega
    · rw [ix_col]
      refine Fin.ext ?_
      show k0_off1 c 1 + 1 * (col x).val = _
      rw [off1_eq']
      show 0 + 1 * (col x).val = _
      omega

/-- All of a device's cells are spent: its semaphores are at zero. -/
theorem close_dma (k : Fin 10) : iprop(Recs m K ∗ all fun s => Pos k s c 1) ⊢ |={Set.univ}=> all fun s => semVal (cl k s c) 0 := by
  have h1 (s : Fin 4) : iprop(Recs m K ∗ Pos k s c 1) ⊢ |={Set.univ}=> semVal (cl k s c) 0 := by
    iintro ⟨#HR, HP⟩
    ihave #H₁ := (recs_at m K (c, some (k, s))) $$ HR
    icases H₁ with ⟨#HI, -⟩
    iapply (Rounds.cell_close ER (Rd m) (Set.mem_univ (K (c, some (k, s)))) (fun h => h) (R := 0 + 1) (duties_dma_later m k s c))
    isplitr; · iexact HI
    iexact HP
  rw [all, fin4, all, fin4]
  iintro ⟨#HR, H0, H1, H2, H3⟩
  imod (h1 0) $$ [H0] with H0
  · isplitr; · iexact HR
    iexact H0
  imod (h1 1) $$ [H1] with H1
  · isplitr; · iexact HR
    iexact H1
  imod (h1 2) $$ [H2] with H2
  · isplitr; · iexact HR
    iexact H2
  imod (h1 3) $$ [H3] with H3
  · isplitr; · iexact HR
    iexact H3
  imodintro
  isplitl [H0]; · iexact H0
  isplitl [H1]; · iexact H1
  isplitl [H2] <;> iassumption

theorem close_bar : iprop(Recs m K ∗ BPos c 1) ⊢ |={Set.univ}=> semVal (bar c) 0 := by
  iintro ⟨#HR, HP⟩
  ihave #H₁ := (recs_at m K (c, none)) $$ HR
  icases H₁ with ⟨#HI, -⟩
  iapply (Rounds.cell_close ER (Rd m) (Set.mem_univ (K (c, none))) (fun h => h) (R := 0 + 1) (duties_bar_later m c))
  isplitr; · iexact HI
  iexact HP

end Steps

end Cert.KernelIdeal.Hand

end
-- ==== Proof.KernelIdealBody.lean ====
/- The body at a device: the copy into `xb`, the barrier, the phases, the waits. -/
module

public import proofs.«01_k».proof.Proof.KernelIdealStart

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Body

variable (m : (ℓ : Loc nD τ sig) → Buf (Elt F) ℓ) (K : Cell → ℕ) (c : Dev nD)

/-- What the body starts from: the records and the linear resources, the argument staged, the result's buffer at any contents. -/
def pre : sProp 𝕄 :=
  iprop(Recs m K ∗ lin (F := F) c ∗ creds (F := F) c ∗ scr (F := F) c ∗ ow c (O₀ c) ∗ (((c : Thread nD τ).loc cc0_stg0_0) ↦{fullShare} xstg m c)
    ∗ ∃ g : Buf (Elt F) ((c : Thread nD τ).loc cc0_stg1_0), ((c : Thread nD τ).loc cc0_stg1_0) ↦{fullShare} g)
/-- What it leaves: the result, nothing owed, the semaphores at zero. -/
def post : sProp 𝕄 :=
  iprop(sems (F := F) c ∗ semVal (bar c) 0 ∗ scr (F := F) c ∗ ow c 0 ∗ (((c : Thread nD τ).loc cc0_stg0_0) ↦{fullShare} xstg m c)
    ∗ (((c : Thread nD τ).loc cc0_stg1_0) ↦{fullShare} OUT m c))

/-- The rights and the rows of phase C, before B's sums are there. -/
def early : sProp 𝕄 :=
  iprop((all (fun s => Crd 3 s c) ∗ all fun s => Pos 3 s c 0)
    ∗ all (fun s => outA (F := F) c (finT c s)) ∗ all (fun s => outA (F := F) (pair c) (finT c s)) ∗ all (fun s => outA (F := F) (xp c) (finT c s))
    ∗ all (fun s => Tok 4 s c) ∗ all (fun s => Tok 5 s (pair c)) ∗ all (fun s => Tok 6 s c) ∗ all fun s => Tok 7 s (xp c))
/-- What the last waits need from the start. -/
def late : sProp 𝕄 :=
  iprop(all (fun s => Crd 7 s c) ∗ all (fun s => Crd 9 s c) ∗ all (fun s => Pos 0 s c 0) ∗ all (fun s => Pos 2 s c 0) ∗ all (fun s => Pos 4 s c 0)
    ∗ all (fun s => Pos 6 s c 0) ∗ all (fun s => Pos 7 s c 0) ∗ all (fun s => Pos 8 s c 0) ∗ all fun s => Pos 9 s c 0)
/-- What no phase touches: the barrier's position, and the argument. -/
def idle : sProp 𝕄 := iprop(BPos (F := F) c 1 ∗ (((c : Thread nD τ).loc cc0_stg0_0) ↦{fullShare} xstg m c))
/-- What B leaves for the end, and what C leaves. -/
def leftB : sProp 𝕄 :=
  iprop(all (fun s => Pos 1 s c 1) ∗ all (fun s => xbP c (ownT c s) fullShare (XB m c)) ∗ all fun s => arP c s.val fullShare (AR m c))
def leftC : sProp 𝕄 :=
  iprop(all (fun s => Pos 3 s c 1) ∗ all (fun s => psP c s.val fullShare.right (PS m c)) ∗ all fun s => brP c s.val fullShare (PS m (cross c)))

/-- The families of the phases, with `n` steps done. -/
abbrev fA (n : ℕ) : sProp 𝕄 := fam n (preA m c) (postA c)
abbrev fB (n : ℕ) : sProp 𝕄 := fam n (preB m c) (postB m c)
abbrev fC (n : ℕ) : sProp 𝕄 := fam n (preC m c) (postC m c)
abbrev fD (n : ℕ) : sProp 𝕄 := fam n (preD c) (postD c)
abbrev fW (k : Fin 10) (n : ℕ) : sProp 𝕄 := fam n (fun s => preW c s k) (fun s => postW m c s k)

/-! ## The phases in a row -/

section Chain

variable {m K c}

/-- A step on what it needs, next to what it does not. -/
theorem chain {A A' R w w' : sProp 𝕄} {O O' : CellTallies nD τ sig Unit} (h : iprop(Recs m K ∗ ow c O ∗ A) ⊢ iprop(((ow c O' ∗ A') -∗ w') -∗ w))
    (h' : iprop(Recs m K ∗ (ow c O' ∗ A') ∗ R) ⊢ w') : iprop(Recs m K ∗ (ow c O ∗ A) ∗ R) ⊢ w := by
  iintro ⟨#HR, ⟨HO, HA⟩, HX⟩
  iapply h $$ [HO HA]
  · isplitr; · iexact HR
    isplitl [HO] <;> iassumption
  iintro H
  iapply h'
  isplitr; · iexact HR
  isplitl [H] <;> iassumption

/-- The next family of waits comes to the front, and the front one goes behind it, or behind all. -/
theorem swap {O : CellTallies nD τ sig Unit} {X Y R w : sProp 𝕄} (h : iprop(Recs m K ∗ (ow c O ∗ Y) ∗ X ∗ R) ⊢ w) : iprop(Recs m K ∗ (ow c O ∗ X) ∗ Y ∗ R) ⊢ w := by
  refine BIBase.Entails.trans ?_ h
  iintro ⟨HR, ⟨HO, HX⟩, HY, HZ⟩
  isplitl [HR]; · iexact HR
  isplitl [HO HY]; · isplitl [HO] <;> iassumption
  isplitl [HX] <;> iassumption
theorem turn {O : CellTallies nD τ sig Unit} {X Y₁ Y₂ Y₃ Y₄ Y₅ Y₆ R w : sProp 𝕄}
    (h : iprop(Recs m K ∗ (ow c O ∗ Y₁) ∗ Y₂ ∗ Y₃ ∗ Y₄ ∗ Y₅ ∗ Y₆ ∗ X ∗ R) ⊢ w) : iprop(Recs m K ∗ (ow c O ∗ X) ∗ Y₁ ∗ Y₂ ∗ Y₃ ∗ Y₄ ∗ Y₅ ∗ Y₆ ∗ R) ⊢ w := by
  refine BIBase.Entails.trans ?_ h
  iintro ⟨HR, ⟨HO, HX⟩, H₁, H₂, H₃, H₄, H₅, H₆, HZ⟩
  isplitl [HR]; · iexact HR
  isplitl [HO H₁]; · isplitl [HO] <;> iassumption
  isplitl [H₂]; · iexact H₂
  isplitl [H₃]; · iexact H₃
  isplitl [H₄]; · iexact H₄
  isplitl [H₅]; · iexact H₅
  isplitl [H₆]; · iexact H₆
  isplitl [HX] <;> iassumption

end Chain

/-- After A: the credits of its sources are kept. -/
theorem toB (R : sProp 𝕄) : iprop(Recs m K ∗ (ow c (OO c 4 0 0 0 0) ∗ fA m c 4) ∗ all (preB m c) ∗ R)
    ⊢ iprop(Recs m K ∗ (ow c (OO c 4 0 0 0 0) ∗ fB m c 0) ∗ all (fun s => Crd 0 s c) ∗ R) := by
  rw [fA, fam_all, fB, fam_none]
  iintro ⟨HR, ⟨HO, HA⟩, HB, HX⟩
  isplitl [HR]; · iexact HR
  isplitl [HO HB]; · isplitl [HO] <;> iassumption
  isplitl [HA]; · iexact HA
  iexact HX

/-- After B: the sums over the pair are there for C. -/
theorem toC (R : sProp 𝕄) : iprop(Recs m K ∗ (ow c (OO c 4 4 0 0 0) ∗ fB m c 4) ∗ all (fun s => Crd 0 s c) ∗ early c ∗ R)
    ⊢ iprop(Recs m K ∗ (ow c (OO c 4 4 0 0 0) ∗ fC m c 0) ∗ all (fun s => Crd 0 s c) ∗ all (fun s => Crd 2 s c) ∗ leftB m c ∗ R) := by
  rw [fB, fam_all, fC, fam_none, postB_all, preC_all]
  unfold early leftB
  iintro ⟨HR, ⟨HO, HP, Hxb, Har, Hps, HC₂⟩, HC₀, ⟨HCP, HE⟩, HX⟩
  isplitl [HR]; · iexact HR
  isplitl [HO Hps HCP HE]
  · isplitl [HO]; · iexact HO
    isplitl [HCP]; · iexact HCP
    isplitl [Hps] <;> iassumption
  isplitl [HC₀]; · iexact HC₀
  isplitl [HC₂]; · iexact HC₂
  isplitl [HP Hxb Har]
  · isplitl [HP]; · iexact HP
    isplitl [Hxb] <;> iassumption
  iexact HX

/-- After C. -/
theorem toD (C₀ C₂ L R : sProp 𝕄) : iprop(Recs m K ∗ (ow c (OO c 4 4 4 4 0) ∗ fC m c 4) ∗ C₀ ∗ C₂ ∗ L ∗ all (preD c) ∗ R)
    ⊢ iprop(Recs m K ∗ (ow c (OO c 4 4 4 4 0) ∗ fD c 0) ∗ C₀ ∗ C₂ ∗ all (fun s => Crd 4 s c) ∗ all (fun s => Crd 6 s c) ∗ L ∗ leftC m c ∗ R) := by
  rw [fC, fam_all, fD, fam_none, postC_all]
  unfold leftC
  iintro ⟨HR, ⟨HO, HP, Hps, Hbr, HC₄, HC₆⟩, HC₀, HC₂, HL, HD, HX⟩
  isplitl [HR]; · iexact HR
  isplitl [HO HD]; · isplitl [HO] <;> iassumption
  isplitl [HC₀]; · iexact HC₀
  isplitl [HC₂]; · iexact HC₂
  isplitl [HC₄]; · iexact HC₄
  isplitl [HC₆]; · iexact HC₆
  isplitl [HL]; · iexact HL
  isplitl [HP Hps Hbr]
  · isplitl [HP]; · iexact HP
    isplitl [Hps] <;> iassumption
  iexact HX

/-- After D: nothing is owed, and the waits' families are there. -/
theorem toW (L R : sProp 𝕄) : iprop(Recs m K ∗ (ow c (OO c 4 4 4 4 4) ∗ fD c 4) ∗ all (fun s => Crd 0 s c) ∗ all (fun s => Crd 2 s c) ∗ all (fun s => Crd 4 s c) ∗ all (fun s => Crd 6 s c)
      ∗ L ∗ leftC m c ∗ late c ∗ R)
    ⊢ iprop(Recs m K ∗ (ow c 0 ∗ fW m c 7 0) ∗ fW m c 9 0 ∗ fW m c 0 0 ∗ fW m c 2 0 ∗ fW m c 4 0 ∗ fW m c 6 0 ∗ fW m c 8 0 ∗ all (fun s => Pos 5 s c 1) ∗ L ∗ leftC m c ∗ R) := by
  have h0 : OO c 4 4 4 4 4 = 0 := by unfold OO; simp only [OFam_end, add_zero]
  rw [fD, fam_all, postD_all, h0]
  simp only [fW, fam_none]
  rw [preW_all c 0, preW_all c 2,
    preW_all c 4, preW_all c 6,
    preW_all c 7, preW_all c 8,
    preW_all c 9]
  unfold late
  iintro ⟨HR, ⟨HO, HP₅, HC₈⟩, HC₀, HC₂, HC₄, HC₆, HL, HLC, ⟨HC₇, HC₉, HP₀, HP₂, HP₄, HP₆, HP₇, HP₈, HP₉⟩, HX⟩
  isplitl [HR]; · iexact HR
  isplitl [HO HC₇ HP₇]
  · isplitl [HO]; · iexact HO
    isplitl [HC₇] <;> iassumption
  isplitl [HC₉ HP₉]; · isplitl [HC₉] <;> iassumption
  isplitl [HC₀ HP₀]; · isplitl [HC₀] <;> iassumption
  isplitl [HC₂ HP₂]; · isplitl [HC₂] <;> iassumption
  isplitl [HC₄ HP₄]; · isplitl [HC₄] <;> iassumption
  isplitl [HC₆ HP₆]; · isplitl [HC₆] <;> iassumption
  isplitl [HC₈ HP₈]; · isplitl [HC₈] <;> iassumption
  isplitl [HP₅]; · iexact HP₅
  isplitl [HL]; · iexact HL
  isplitl [HLC] <;> iassumption

/-- After the last wait: the pieces make up the buffers again, and the semaphores are closed. -/
theorem finish (Kt : PUnit → sProp 𝕄) : iprop(Recs m K ∗ (ow c 0 ∗ fW m c 8 4) ∗ fW m c 7 4 ∗ fW m c 9 4 ∗ fW m c 0 4 ∗ fW m c 2 4 ∗ fW m c 4 4 ∗ fW m c 6 4
      ∗ all (fun s => Pos 5 s c 1) ∗ leftB m c ∗ leftC m c ∗ idle m c ∗ (post m c -∗ Kt ⟨⟩))
    ⊢ |={Set.univ}=> Kt ⟨⟩ := by
  simp only [fW, fam_all]
  rw [postW_all m c 0, postW_all m c 2,
    postW_all m c 4, postW_all m c 6,
    postW_all m c 7, postW_all m c 8,
    postW_all m c 9]
  unfold leftB leftC idle
  iintro ⟨#HR, ⟨HO, HP₈, HY₈⟩, ⟨HP₇, HY₇⟩, ⟨HP₉, HY₉⟩, ⟨HP₀, HY₀⟩, ⟨HP₂, HY₂⟩, ⟨HP₄, HY₄⟩, ⟨HP₆, HY₆⟩, HP₅, ⟨HP₁, Hxb, Har⟩, ⟨HP₃, Hps, Hbr⟩, ⟨HB, Hx⟩, Hk⟩
  have hc (k : Fin 10) := close_dma m K c k
  imod (hc 0) $$ [HP₀] with HP₀
  · isplitr <;> iassumption
  imod (hc 1) $$ [HP₁] with HP₁
  · isplitr <;> iassumption
  imod (hc 2) $$ [HP₂] with HP₂
  · isplitr <;> iassumption
  imod (hc 3) $$ [HP₃] with HP₃
  · isplitr <;> iassumption
  imod (hc 4) $$ [HP₄] with HP₄
  · isplitr <;> iassumption
  imod (hc 5) $$ [HP₅] with HP₅
  · isplitr <;> iassumption
  imod (hc 6) $$ [HP₆] with HP₆
  · isplitr <;> iassumption
  imod (hc 7) $$ [HP₇] with HP₇
  · isplitr <;> iassumption
  imod (hc 8) $$ [HP₈] with HP₈
  · isplitr <;> iassumption
  imod (hc 9) $$ [HP₉] with HP₉
  · isplitr <;> iassumption
  imod (close_bar m K c) $$ [HB] with HB
  · isplitr <;> iassumption
  imodintro
  iapply Hk
  unfold post sems scr
  rw [bigSep_univ_prod, fin10, out_blocks]
  isplitl [HP₀ HP₁ HP₂ HP₃ HP₄ HP₅ HP₆ HP₇ HP₈ HP₉]
  · isplitl [HP₀]; · iexact HP₀
    isplitl [HP₁]; · iexact HP₁
    isplitl [HP₂]; · iexact HP₂
    isplitl [HP₃]; · iexact HP₃
    isplitl [HP₄]; · iexact HP₄
    isplitl [HP₅]; · iexact HP₅
    isplitl [HP₆]; · iexact HP₆
    isplitl [HP₇]; · iexact HP₇
    isplitl [HP₈] <;> iassumption
  isplitl [HB]; · iexact HB
  isplitl [HY₀ Hxb Har HY₂ Hps Hbr]
  · isplitl [HY₀ Hxb]
    · iexists XB m c
      iapply (Entails.of_eq (xb_blocks c (XB m c)).symm)
      isplitl [HY₀]; · iexact HY₀
      iexact Hxb
    isplitl [Har]
    · iexists AR m c
      iapply (Entails.of_eq (ar_blocks c (AR m c)).symm); iexact Har
    isplitl [HY₂ Hps]
    · iexists PS m c
      iapply ((ps_join c (PS m c)).trans (Entails.of_eq (ps_blocks c fullShare (PS m c)).symm))
      isplitl [HY₂]; · iexact HY₂
      iexact Hps
    · iexists PS m (cross c)
      iapply (Entails.of_eq (br_blocks c (PS m (cross c))).symm); iexact Hbr
  isplitl [HO]; · iexact HO
  isplitl [Hx]; · iexact Hx
  isplitl [HY₄ HY₆]
  · iapply (out_join c (finT c) (OUT m c))
    isplitl [HY₄]; · iexact HY₄
    iexact HY₆
  isplitl [HY₈]; · iexact HY₈
  isplitl [HY₇]; · iexact HY₇
  iexact HY₉

/-- The copy into `xb` and the barrier: the device hands its buffers over, and gets its partners'. -/
theorem prologue (R : sProp 𝕄) {h hl hz hl' hx hm sem k₁ k₃} {n₁ n₂ n₃ : Dev nD} (hn₁ : n₁ = pair c) (hn₂ : n₂ = cross c) (hn₃ : n₃ = xp c)
    (hs : sem = barrier0) (hk₁ : ((1 : ℕ) : ℤ) = k₁) (hk₃ : ((3 : ℕ) : ℤ) = k₃)
    {pay : Vec F S512x512 .bf16 → Vec F S512x512 .bf16} (hpay : ∀ v, pay v = v) {kk : PUnit → Prog (TpuEff nD τ sig (Elt F) Λ₀ .tc) PUnit} {Q : PUnit → sProp 𝕄}
    (hkk : iprop(Recs m K ∗ (ow c (OO c 0 0 0 0 0) ∗ fA m c 0) ∗ all (preB m c) ∗ early c ∗ all (preD c) ∗ late c ∗ idle m c ∗ R)
      ⊢ wp frame (wpE (defs₀ (F := F)) 𝒱₀ (c : Thread nD τ) none) Set.univ (kk ⟨⟩) Q) :
    iprop(pre m K c ∗ R) ⊢ wp frame (wpE (defs₀ (F := F)) 𝒱₀ (c : Thread nD τ) none) Set.univ
      (.op (.load (Memref.whole cc0_stg0_0) (Rect.unit (s := S1024x512) (k0_off1 c) S512x512.size h).toLoadRect hl) fun v =>
        .op (.load (Memref.whole cc0_scratch0) (Rect.unit (s := S512x512) ![0, 0] S512x512.size hz).toLoadRect hl') fun _ =>
        .op (.store (Memref.whole cc0_scratch0) (Rect.unit (s := S512x512) ![0, 0] S512x512.size hz) (pay v) Finset.univ hx hm) fun _ =>
        .op (.semSignal (n₁ : Thread nD τ) sem k₁) fun _ =>
        .op (.semSignal (n₂ : Thread nD τ) sem k₁) fun _ =>
        .op (.semSignal (n₃ : Thread nD τ) sem k₁) fun _ =>
        .op (.semWait sem k₃) kk) Q := by
  have hw (f : Buf (Elt F) ((c : Thread nD τ).loc cc0_scratch0)) : ((Memref.whole cc0_scratch0).access (Rect.unit (s := S512x512) ![0, 0] S512x512.size hz)).write (Elt F) f
      (pay (((Memref.whole cc0_stg0_0).access (Rect.unit (s := S1024x512) (k0_off1 c) S512x512.size h)).read (Elt F) (xstg m c))) Finset.univ = XB m c := by
    rw [hpay, xb_load]
    exact Memref.write_access_unit_zero_univ (Elt F) cc0_scratch0 (funext fun a => by fin_cases a <;> rfl) _ f _
  unfold pre lin creds scr
  rw [fin10 (fun k => all fun s => Pos k s c 0), fin10 (fun k => all fun s => Tok k s (tgt k c)), fin3]
  iintro ⟨⟨#HR, ⟨HB, ⟨HP₀, HP₁, HP₂, HP₃, HP₄, HP₅, HP₆, HP₇, HP₈, HP₉⟩, ⟨HT₀, HT₁, HT₂, HT₃, HT₄, HT₅, HT₆, HT₇, HT₈, HT₉⟩, HS₀, HS₁, HS₂⟩,
    ⟨HC, HC₁, HC₃, HC₅, HC₇, HC₉⟩, ⟨⟨%f₀, Hxb⟩, ⟨%f₁, Har⟩, ⟨%f₂, Hps⟩, ⟨%f₃, Hbr⟩⟩, HO, Hx, ⟨%g, Hout⟩⟩, HX⟩
  iapply (wp_load_rect 𝒱₀ (c : Thread nD τ) none Set.univ (m := Memref.whole cc0_stg0_0) (r := Rect.unit (s := S1024x512) (k0_off1 c) S512x512.size h) (Finset.subset_univ _)) $$ Hx
  iintro Hx
  iapply (wp_load_rect 𝒱₀ (c : Thread nD τ) none Set.univ (m := Memref.whole cc0_scratch0) (r := Rect.unit (s := S512x512) ![0, 0] S512x512.size hz) (Finset.subset_univ _)) $$ Hxb
  iintro Hxb
  iapply (wp_store 𝒱₀ (c : Thread nD τ) none Set.univ (m := Memref.whole cc0_scratch0) (r := Rect.unit (s := S512x512) ![0, 0] S512x512.size hz) (Mk := Finset.univ) (Finset.subset_univ _)) $$ Hxb
  iintro Hxb
  rw [hw f₀]
  ihave Hxb := (Entails.of_eq (xb_blocks c (XB m c))) $$ Hxb
  icases Hxb with ⟨Hxo, Hxw⟩
  ihave Hout := (Entails.of_eq (out_blocks c g)) $$ Hout
  icases Hout with ⟨Ho₀, Ho₁, Ho₂, Ho₃⟩
  iapply (signal_step m K c hn₁ (d := 0) hs hk₁ (OO c 0 0 0 0 0 + tallyAt (bar (xp c)) () 1 + tallyAt (bar (cross c)) () 1) rfl) $$ [HO HS₀ Har Ho₁]
  · isplitr; · iexact HR
    isplitl [HO]; · iexact HO
    isplitl [HS₀]; · iexact HS₀
    rw [barPay_pair]
    isplitl [Har]
    · iapply (ar_some c f₁); iapply (Entails.of_eq (ar_blocks c f₁)); iexact Har
    · iapply (out_some c (ofinT c) g); iexact Ho₁
  iintro HO
  iapply (signal_step m K c hn₂ (d := 1) hs hk₁ (OO c 0 0 0 0 0 + tallyAt (bar (xp c)) () 1) rfl) $$ [HO HS₁ Hbr]
  · isplitr; · iexact HR
    isplitl [HO]; · iexact HO
    isplitl [HS₁]; · iexact HS₁
    rw [barPay_cross]
    iapply (br_some c f₃); iapply (Entails.of_eq (br_blocks c f₃)); iexact Hbr
  iintro HO
  iapply (signal_step m K c hn₃ (d := 2) hs hk₁ (OO c 0 0 0 0 0) rfl) $$ [HO HS₂ Ho₂ Ho₃]
  · isplitr; · iexact HR
    isplitl [HO]; · iexact HO
    isplitl [HS₂]; · iexact HS₂
    rw [barPay_xp]
    isplitl [Ho₂]
    · iapply (out_some c (finT (xp c)) g); iexact Ho₂
    · iapply (out_some c (ofinT (xp c)) g); iexact Ho₃
  iintro HO
  iapply (barrier_step m K c hs hk₃) $$ [HC HO HB]
  · isplitr; · iexact HR
    isplitl [HC]; · iexact HC
    isplitl [HO] <;> iassumption
  unfold barPay
  iintro ⟨HO, HB, ⟨Hya, Hyo⟩, Hyb, Hzo, Hzp⟩
  iapply hkk
  rw [fA, fam_none, preA_all, preB_all, preD_all]
  unfold early late idle
  isplitr; · iexact HR
  isplitl [HO Hxo Hya HT₀ HT₁]
  · isplitl [HO]; · iexact HO
    isplitl [Hxo]; · iexact Hxo
    isplitl [Hya]; · iexact Hya
    isplitl [HT₀]; · iexact HT₀
    iexact HT₁
  isplitl [HC₁ HP₁ Hxw Hps Hyb HT₂ HT₃]
  · isplitl [HC₁ HP₁]; · isplitl [HC₁] <;> iassumption
    isplitl [Hxw]; · iexact Hxw
    isplitl [Hps]
    · iapply (ps_some c f₂); iapply (Entails.of_eq (ps_blocks c fullShare f₂)); iexact Hps
    isplitl [Hyb]; · iexact Hyb
    isplitl [HT₂]; · iexact HT₂
    iexact HT₃
  isplitl [HC₃ HP₃ Ho₀ Hyo Hzo HT₄ HT₅ HT₆ HT₇]
  · isplitl [HC₃ HP₃]; · isplitl [HC₃] <;> iassumption
    isplitl [Ho₀]; · iapply (out_some c (finT c) g); iexact Ho₀
    isplitl [Hyo]; · iexact Hyo
    isplitl [Hzo]; · iexact Hzo
    isplitl [HT₄]; · iexact HT₄
    isplitl [HT₅]; · iexact HT₅
    isplitl [HT₆]; · iexact HT₆
    iexact HT₇
  isplitl [HC₅ HP₅ Hzp HT₈ HT₉]
  · isplitl [HC₅ HP₅]; · isplitl [HC₅] <;> iassumption
    isplitl [Hzp]; · iexact Hzp
    isplitl [HT₈]; · iexact HT₈
    iexact HT₉
  isplitl [HC₇ HC₉ HP₀ HP₂ HP₄ HP₆ HP₇ HP₈ HP₉]
  · isplitl [HC₇]; · iexact HC₇
    isplitl [HC₉]; · iexact HC₉
    isplitl [HP₀]; · iexact HP₀
    isplitl [HP₂]; · iexact HP₂
    isplitl [HP₄]; · iexact HP₄
    isplitl [HP₆]; · iexact HP₆
    isplitl [HP₇]; · iexact HP₇
    isplitl [HP₈] <;> iassumption
  isplitl [HB Hx]; · isplitl [HB] <;> iassumption
  iexact HX

set_option maxHeartbeats 4000000 in
theorem sound_body (Kt : PUnit → sProp 𝕄) :
    iprop(pre m K c ∗ (post m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            cc0_scratch4 cc0_scratch5 cc0_scratch6 cc0_scratch7 cc0_scratch8 cc0_scratch9 cc0_scratch10 cc0_scratch11 cc0_scratch12 cc0_scratch13) Kt := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel
  simp only [semSignalWord, semWaitWord, Prog.lift, Prog.bind_op, Prog.bind_ret, Prog.pure_eq_ret, Prog.bind_assoc, wp_deviceId]
  refine prologue m K c _ (dev1_eq c) (dev2_eq c) (dev3_eq c) rfl rfl rfl (pay := k0_pay1) pay1_eq ?_
  refine chain (stepA (m := m) K c 0 (off2_eq c 0) rfl (dev4_eq c) rfl rfl) ?_
  refine chain (stepA (m := m) K c 1 (off2_eq c 1) rfl (dev5_eq c) rfl rfl) ?_
  refine chain (stepA (m := m) K c 2 (off2_eq c 2) rfl (dev6_eq c) rfl rfl) ?_
  refine chain (stepA (m := m) K c 3 (off2_eq c 3) rfl (dev7_eq c) rfl rfl) ?_
  refine (toB m K c _).trans ?_
  refine chain (stepB (m := m) K c 0 (off3_eq c 0) rfl (dev8_eq c) rfl rfl rfl (by rfl) (pay := k0_pay2) pay2_eq) ?_
  refine chain (stepB (m := m) K c 1 (off3_eq c 1) rfl (dev9_eq c) rfl rfl rfl (by rfl) (pay := k0_pay3) pay3_eq) ?_
  refine chain (stepB (m := m) K c 2 (off3_eq c 2) rfl (dev10_eq c) rfl rfl rfl (by rfl) (pay := k0_pay4) pay4_eq) ?_
  refine chain (stepB (m := m) K c 3 (off3_eq c 3) rfl (dev11_eq c) rfl rfl rfl (by rfl) (pay := k0_pay5) pay5_eq) ?_
  refine (toC m K c _).trans ?_
  refine chain (stepC (m := m) K c 0 (off4_eq c 0) rfl (off5_eq c 0) (dev12_eq c) (dev13_eq c) rfl rfl rfl rfl rfl (by rfl) (pay := k0_pay6) pay6_eq) ?_
  refine chain (stepC (m := m) K c 1 (off4_eq c 1) rfl (off5_eq c 1) (dev14_eq c) (dev15_eq c) rfl rfl rfl rfl rfl (by rfl) (pay := k0_pay7) pay7_eq) ?_
  refine chain (stepC (m := m) K c 2 (off4_eq c 2) rfl (off5_eq c 2) (dev16_eq c) (dev17_eq c) rfl rfl rfl rfl rfl (by rfl) (pay := k0_pay8) pay8_eq) ?_
  refine chain (stepC (m := m) K c 3 (off4_eq c 3) rfl (off5_eq c 3) (dev18_eq c) (dev19_eq c) rfl rfl rfl rfl rfl (by rfl) (pay := fun v => k0_pay10 (k0_pay9 v)) pay9_eq) ?_
  refine (toD m K c _ _ _ _).trans ?_
  refine chain (stepD (m := m) K c 0 (off6_eq c 0) (dev20_eq c) rfl rfl rfl (by rfl)) ?_
  refine chain (stepD (m := m) K c 1 (off6_eq c 1) (dev21_eq c) rfl rfl rfl (by rfl)) ?_
  refine chain (stepD (m := m) K c 2 (off6_eq c 2) (dev22_eq c) rfl rfl rfl (by rfl)) ?_
  refine chain (stepD (m := m) K c 3 (off6_eq c 3) (dev23_eq c) rfl rfl rfl (by rfl)) ?_
  refine (toW m K c _ _).trans ?_
  refine chain (stepW (m := m) K c 0 rfl (by rfl)) ?_
  refine chain (stepW (m := m) K c 1 rfl (by rfl)) ?_
  refine chain (stepW (m := m) K c 2 rfl (by rfl)) ?_
  refine chain (stepW (m := m) K c 3 rfl (by rfl)) ?_
  refine turn ?_
  refine chain (stepW (m := m) K c 0 rfl (by rfl)) ?_
  refine chain (stepW (m := m) K c 1 rfl (by rfl)) ?_
  refine chain (stepW (m := m) K c 2 rfl (by rfl)) ?_
  refine chain (stepW (m := m) K c 3 rfl (by rfl)) ?_
  refine turn ?_
  refine chain (stepW (m := m) K c 0 rfl (by rfl)) ?_
  refine chain (stepW (m := m) K c 1 rfl (by rfl)) ?_
  refine chain (stepW (m := m) K c 2 rfl (by rfl)) ?_
  refine chain (stepW (m := m) K c 3 rfl (by rfl)) ?_
  refine turn ?_
  refine chain (stepW (m := m) K c 0 rfl (by rfl)) ?_
  refine chain (stepW (m := m) K c 1 rfl (by rfl)) ?_
  refine chain (stepW (m := m) K c 2 rfl (by rfl)) ?_
  refine chain (stepW (m := m) K c 3 rfl (by rfl)) ?_
  refine turn ?_
  refine chain (stepW (m := m) K c 0 rfl (by rfl)) ?_
  refine swap ?_
  refine chain (stepW (m := m) K c 0 rfl (by rfl)) ?_
  refine swap ?_
  refine chain (stepW (m := m) K c 1 rfl (by rfl)) ?_
  refine swap ?_
  refine chain (stepW (m := m) K c 1 rfl (by rfl)) ?_
  refine swap ?_
  refine chain (stepW (m := m) K c 2 rfl (by rfl)) ?_
  refine swap ?_
  refine chain (stepW (m := m) K c 2 rfl (by rfl)) ?_
  refine swap ?_
  refine chain (stepW (m := m) K c 3 rfl (by rfl)) ?_
  refine swap ?_
  refine chain (stepW (m := m) K c 3 rfl (by rfl)) ?_
  refine swap ?_
  refine turn ?_
  refine turn ?_
  refine chain (stepW (m := m) K c 0 rfl (by rfl)) ?_
  refine chain (stepW (m := m) K c 1 rfl (by rfl)) ?_
  refine chain (stepW (m := m) K c 2 rfl (by rfl)) ?_
  refine chain (stepW (m := m) K c 3 rfl (by rfl)) ?_
  rw [wp_ret]
  exact finish m K c Kt

end Body

end Cert.KernelIdeal.Hand

end
-- ==== Proof.KernelIdealGhost.lean ====
/- What the launch deals out: each cell's invariant, position and tokens, and the credits. -/
module

public import proofs.«01_k».proof.Proof.KernelIdealStart

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The cells -/

theorem sm_inj {k k' : Fin 10} {s s' : Fin 4} (h : sm k s = sm k' s') : k = k' ∧ s = s' :=
  ⟨(famOf_sm k s).symm.trans ((congrArg famOf h).trans (famOf_sm k' s')), (slOf_sm k s).symm.trans ((congrArg slOf h).trans (slOf_sm k' s'))⟩

/-- Two DMA cells are equal when device, array and slice are. -/
theorem cl_eq_iff {k k' : Fin 10} {s s' : Fin 4} {c c' : Dev nD} : cl k s c = cl k' s' c' ↔ k = k' ∧ s = s' ∧ c = c' := by
  constructor
  · intro h
    have hc : c = c' := congrArg (fun g : GSem nD τ sig => g.1.1) h
    have hs := sm_inj (SemLoc.dma.inj (congrArg Prod.snd h))
    exact ⟨hs.1, hs.2, hc⟩
  · rintro ⟨rfl, rfl, rfl⟩; rfl
theorem bar_eq_iff {c c' : Dev nD} : bar c = bar c' ↔ c = c' :=
  ⟨fun h => congrArg (fun g : GSem nD τ sig => g.1.1) h, fun h => h ▸ rfl⟩
theorem bar_ne_cl {k : Fin 10} {s : Fin 4} {c c' : Dev nD} : bar c ≠ cl k s c' := fun h => by cases congrArg Prod.snd h

theorem cellAt_injective : Function.Injective cellAt := by
  rintro ⟨c, _ | ⟨k, s⟩⟩ ⟨c', _ | ⟨k', s'⟩⟩ h
  · obtain rfl := bar_eq_iff.mp h; rfl
  · exact absurd h bar_ne_cl
  · exact absurd h.symm bar_ne_cl
  · obtain ⟨rfl, rfl, rfl⟩ := cl_eq_iff.mp h; rfl

/-- The cells, and a token for each of the three duties that a cell may have. -/
def exCells : Finset (GSem nD τ sig) := Finset.univ.map ⟨cellAt, cellAt_injective⟩
def tokAt (x : Cell × Fin 3) : GSem nD τ sig × ℕ × Fin 3 := (cellAt x.1, 0, x.2)
theorem tokAt_injective : Function.Injective tokAt := by
  rintro ⟨ck, d⟩ ⟨ck', d'⟩ h
  obtain rfl := cellAt_injective (congrArg Prod.fst h)
  obtain rfl : d = d' := congrArg (fun x : GSem nD τ sig × ℕ × Fin 3 => x.2.2) h
  rfl
def exToks : Finset (GSem nD τ sig × ℕ × Fin 3) := Finset.univ.map ⟨tokAt, tokAt_injective⟩

def u₀ : UU := (initOf (Pipeline.cells cfgs cellOf_inj) (Pipeline.launchToks cfgs cellOf_inj), initOf exCells exToks)

/-- A device's cells: the barrier's, then those of the arrays. -/
theorem bigSep_cells (Φ : Option (Fin 10 × Fin 4) → sProp 𝕄) : bigSep Finset.univ Φ = iprop(Φ none ∗ bigSep Finset.univ fun ks => Φ (some ks)) := by
  rw [bigSep_univ_equiv ((Equiv.sumComm PUnit.{1} (Fin 10 × Fin 4)).trans (Equiv.optionEquivSumPUnit.{0, 0} (Fin 10 × Fin 4)).symm) Φ, bigSep_univ_sum,
    bigSep_univ_of_subsingleton PUnit.unit.{1}]
  rfl

/-- A family over the devices, dealt out along involutions. -/
theorem deal {J : Type} [Fintype J] (e : J → Dev nD → Dev nD) (he : ∀ j c, e j (e j c) = c) (Φ : J → Dev nD → sProp 𝕄) :
    (bigSep Finset.univ fun c : Dev nD => bigSep Finset.univ fun j => Φ j c) = bigSep Finset.univ fun c : Dev nD => bigSep Finset.univ fun j => Φ j (e j c) := by
  rw [bigSep_univ_comm, bigSep_univ_comm (fun c j => Φ j (e j c))]
  exact bigSep_congr fun j _ => bigSep_univ_equiv (Function.Involutive.toPerm (e j) (he j)) (Φ j)

theorem tgt_tgt (k : Fin 10) (c : Dev nD) : tgt k (tgt k c) = c := by
  unfold tgt
  fin_cases k <;> first | rfl | exact pair_pair c | exact cross_cross c | exact xp_xp c
theorem btgt_btgt (d : Fin 3) (c : Dev nD) : btgt d (btgt d c) = c := by
  unfold btgt
  fin_cases d <;> first | exact pair_pair c | exact cross_cross c | exact xp_xp c

/-- Something known throughout goes with every part of a family. -/
theorem with_all {I : Type} [DecidableEq I] {S : Finset I} {R : sProp 𝕄} [BI.Persistent R] {Φ Ψ : I → sProp 𝕄} (h : ∀ i ∈ S, iprop(R ∗ Φ i) ⊢ Ψ i) :
    iprop(R ∗ bigSep S Φ) ⊢ bigSep S Ψ :=
  (sep_mono_left (BI.bigSep_of_persistent S R)).trans (by rw [← bigSep_sep']; exact bigSep_mono h)

section Ghost

variable (m : (ℓ : Loc nD τ sig) → Buf (Elt F) ℓ)

/-- The tokens of a device's own cells. -/
def toks (c : Dev nD) : sProp 𝕄 := iprop((bigSep Finset.univ fun d : Fin 3 => BTok d c) ∗ bigSep Finset.univ fun k : Fin 10 => all fun s => Tok k s c)

/-- What a device gets of the launch's element. -/
def G (c : Dev nD) : sProp 𝕄 :=
  iprop((bigSep Finset.univ fun o => roundState ER (Rd m) (cellAt (c, o)) 0)
    ∗ (bigSep Finset.univ fun o => atPos ER (cellAt (c, o)) 0 (∅ : Finset (Fin 3)) 0) ∗ (bigSep Finset.univ fun o => reached ER (cellAt (c, o)) 0) ∗ toks (F := F) c)

/-- The cells' invariants, and that every round is open. -/
def recs₀ (K : Cell → ℕ) : sProp 𝕄 :=
  iprop((bigSep Finset.univ fun ck : Cell => cellInv ER (Rd m) (K ck) (cellAt ck)) ∗ bigSep Finset.univ fun ck : Cell => reached ER (cellAt ck) 0)
instance recs₀_persistent (K : Cell → ℕ) : BI.Persistent (recs₀ m K) := by unfold recs₀; infer_instance

/-- What every device has once the cells are allocated. -/
def G' (c : Dev nD) : sProp 𝕄 := iprop(∃ K, recs₀ m K ∗ lin (F := F) c)

theorem toks_intro (c : Dev nD) : (bigSep Finset.univ fun o => bigSep Finset.univ fun d => dutyTok ER (cellAt (c, o)) 0 d : sProp 𝕄) ⊢ toks c := by
  rw [bigSep_cells, bigSep_univ_prod]
  exact sep_mono_right (bigSep_mono fun k _ => bigSep_mono fun s _ => bigSep_elim (Finset.mem_univ (0 : Fin 3)))

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun o => Φ (cellAt (c, o)) := by
    unfold exCells; rw [bigSep_map, bigSep_univ_prod]; rfl
  have hT : bigSep exToks (fun x => (dutyTok ER x.1 x.2.1 x.2.2 : sProp 𝕄)) ⊢ bigSep Finset.univ fun c : Dev nD => toks c := by
    unfold exToks; rw [bigSep_map, bigSep_univ_prod, bigSep_univ_prod]
    exact bigSep_mono fun c _ => toks_intro c
  iintro HX
  imod (Rounds.fund ER (Rd m) exCells exToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat']; · iexact Hat'
  isplitl [Hr']; · iexact Hr'
  iexact Htok'

/-- The kernel's own semaphores: those of the ten arrays. -/
abbrev osem : Fin 10 × Fin 4 → SemLoc sig := fun ks => .dma (sm ks.1 ks.2)

theorem unscopedSems0_eq (c : Dev nD) : (unscopedSems0 c : sProp 𝕄) = semVal (bar c) 0 := by
  unfold unscopedSems0; rw [bigSep_eq_bigSepL_of_eq [SemLoc.reg barrier0] (by decide) (by decide)]; rfl
theorem ownSems0_eq (c : Dev nD) : (Pipeline.ownSems0 (Ix := Unit) (Name := ℕ) (U := UU) (Lvl := ℕ) (Val := Elt F) (τ := τ) osem c : sProp 𝕄) = sems c := rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun o => iprop(∃ κ : ℕ, cellInv ER (Rd m) κ (cellAt (c, o))))
          ∗ (bigSep Finset.univ fun o => atPos ER (cellAt (c, o)) 0 (∅ : Finset (Fin 3)) 0) ∗ (bigSep Finset.univ fun o => reached ER (cellAt (c, o)) 0) ∗ toks (F := F) c) := by
  have hA : iprop((bigSep Finset.univ fun o => semVal (cellAt (c, o)) 0) ∗ bigSep Finset.univ fun o => roundState ER (Rd m) (cellAt (c, o)) 0)
      ⊢ (|={Set.univ}=> bigSep Finset.univ fun o => iprop(∃ κ : ℕ, cellInv ER (Rd m) κ (cellAt (c, o))) : sProp 𝕄) := by
    rw [← bigSep_sep']
    exact (bigSep_mono fun o _ => (Rounds.body_intro ER (Rd m) (cellAt (c, o))).trans inv_alloc).trans (bigSep_fupd _ _)
  rw [ownSems0_eq, unscopedSems0_eq]
  unfold G
  iintro ⟨Hos, Hus, Hst, Hat, Hr, Htok⟩
  imod hA $$ [Hos Hus Hst] with Hinv
  · isplitl [Hos Hus]
    · rw [bigSep_cells]
      isplitl [Hus]; · iexact Hus
      iapply (Entails.of_eq (show sems (F := F) c = bigSep Finset.univ fun ks => semVal (cellAt (c, some ks)) 0 from rfl)); iexact Hos
    iexact Hst
  imodintro
  isplitl [Hinv]; · iexact Hinv
  isplitl [Hat]; · iexact Hat
  isplitl [Hr]; · iexact Hr
  iexact Htok

theorem lin_intro (c : Dev nD) :
    iprop((bigSep Finset.univ fun o => atPos ER (cellAt (c, o)) 0 (∅ : Finset (Fin 3)) 0)
      ∗ (bigSep Finset.univ fun k : Fin 10 => all fun s => Tok k s (tgt k c)) ∗ bigSep Finset.univ fun d : Fin 3 => BTok d (btgt d c)) ⊢ lin (F := F) c := by
  rw [bigSep_cells, bigSep_univ_prod]
  unfold lin
  iintro ⟨⟨HB, HP⟩, HT, HS⟩
  isplitl [HB]; · iexact HB
  isplitl [HP]; · iexact HP
  isplitl [HT]; · iexact HT
  iexact HS

theorem regroup :
    (bigSep Finset.univ fun c : Dev nD => iprop((bigSep Finset.univ fun o => iprop(∃ κ : ℕ, cellInv ER (Rd m) κ (cellAt (c, o))))
          ∗ (bigSep Finset.univ fun o => atPos ER (cellAt (c, o)) 0 (∅ : Finset (Fin 3)) 0) ∗ (bigSep Finset.univ fun o => reached ER (cellAt (c, o)) 0) ∗ toks c) : sProp 𝕄)
      ⊢ bigSep Finset.univ (G' m) := by
  unfold toks
  simp only [bigSep_sep']
  rw [← bigSep_univ_prod (fun ck : Cell => iprop(∃ κ : ℕ, cellInv ER (Rd m) κ (cellAt ck))), ← bigSep_univ_prod (fun ck : Cell => (reached ER (cellAt ck) 0 : sProp 𝕄)),
    deal btgt btgt_btgt (fun d c => BTok (F := F) d c), deal tgt tgt_tgt (fun k c => all (F := F) fun s => Tok k s c)]
  iintro ⟨HI, Hat, #HR, HS, HT⟩
  ihave HK := (BI.bigSep_exists_pi Finset.univ (fun (ck : Cell) (κ : ℕ) => (cellInv ER (Rd m) κ (cellAt ck) : sProp 𝕄))) $$ HI
  icases HK with ⟨%K, #HI⟩
  have hg (c : Dev nD) : iprop(recs₀ m K ∗ lin (F := F) c) ⊢ G' m c := by
    unfold G'
    iintro H
    iexists K
    iexact H
  iapply (with_all (R := recs₀ m K) fun c _ => hg c)
  isplitr
  · unfold recs₀
    isplitl; · iexact HI
    iexact HR
  · have hl : (bigSep Finset.univ fun c : Dev nD => iprop((bigSep Finset.univ fun o => atPos ER (cellAt (c, o)) 0 (∅ : Finset (Fin 3)) 0)
        ∗ (bigSep Finset.univ fun k : Fin 10 => all fun s => Tok k s (tgt k c)) ∗ bigSep Finset.univ fun d : Fin 3 => BTok (F := F) d (btgt d c)))
        ⊢ bigSep Finset.univ (lin (F := F)) := bigSep_mono fun c _ => lin_intro c
    iapply hl
    simp only [bigSep_sep']
    isplitl [Hat]; · iexact Hat
    isplitl [HT]; · iexact HT
    iexact HS

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Ghost

/-! ## The credits of the launch -/

theorem OFam_at (k : Fin 10) (p : Dev nD → Dev nD) (d : Dev nD) (g : GSem nD τ sig) : OFam k p d 0 g () = ∑ s : Fin 4, if g = cl k s (p d) then N else 0 := by
  unfold OFam
  rw [Finset.sum_apply, Finsupp.finset_sum_apply]
  refine Finset.sum_congr rfl fun s _ => ?_
  rw [if_pos (Nat.zero_le _), tallyAt_apply]
  by_cases h : g = cl k s (p d)
  · rw [if_pos ⟨h, rfl⟩, if_pos h]
  · rw [if_neg fun h' => h h'.1, if_neg h]
theorem bar_at (c' : Dev nD) (g : GSem nD τ sig) : tallyAt (bar c') () 1 g () = if g = bar c' then 1 else 0 := by
  rw [tallyAt_apply]
  by_cases h : g = bar c'
  · rw [if_pos ⟨h, rfl⟩, if_pos h]
  · rw [if_neg fun h' => h h'.1, if_neg h]

variable {p : Dev nD → Dev nD} (hp : ∀ c, p (p c) = c)
include hp

/-- Every device owes one kind of copy to one device: each cell is owed by one. -/
theorem sum_OFam (k : Fin 10) (k' : Fin 10) (s : Fin 4) (c : Dev nD) : ∑ d : Dev nD, OFam k p d 0 (cl k' s c) () = if k' = k then N else 0 := by
  simp only [OFam_at, cl_eq_iff]
  by_cases h : k' = k
  · rw [if_pos h, Finset.sum_eq_single (p c) (fun d _ hd => Finset.sum_eq_zero fun s' _ => if_neg fun h' => hd (by rw [h'.2.2, hp])) (fun h' => absurd (Finset.mem_univ _) h'),
      Finset.sum_eq_single s (fun s' _ hs => if_neg fun h' => hs h'.2.1.symm) (fun h' => absurd (Finset.mem_univ _) h'), if_pos ⟨h, rfl, (hp c).symm⟩]
  · rw [if_neg h]
    exact Finset.sum_eq_zero fun d _ => Finset.sum_eq_zero fun s' _ => if_neg fun h' => h h'.1
theorem sum_bar (c : Dev nD) : ∑ d : Dev nD, tallyAt (bar (p d)) () 1 (bar c) () = 1 := by
  simp only [bar_at, bar_eq_iff]
  rw [Finset.sum_eq_single (p c) (fun d _ hd => if_neg fun h' => hd (by rw [h', hp])) (fun h' => absurd (Finset.mem_univ _) h'), if_pos (hp c).symm]
omit hp in
theorem sum_OFam_bar (k : Fin 10) (c : Dev nD) : ∑ d : Dev nD, OFam k p d 0 (bar c) () = 0 := by
  simp only [OFam_at]
  exact Finset.sum_eq_zero fun d _ => Finset.sum_eq_zero fun s' _ => if_neg bar_ne_cl
omit hp in
theorem sum_bar_cl (k : Fin 10) (s : Fin 4) (c : Dev nD) : ∑ d : Dev nD, tallyAt (bar (p d)) () 1 (cl k s c) () = 0 := by
  simp only [bar_at]
  exact Finset.sum_eq_zero fun d _ => if_neg bar_ne_cl.symm
omit hp

theorem owed_sum (g : GSem nD τ sig) : ∑ d : Dev nD, O₀ d g () =
    (∑ d, OFam 1 pair d 0 g ()) + ((∑ d, OFam 3 cross d 0 g ()) + ((∑ d, OFam 5 pair d 0 g ()) + ((∑ d, OFam 7 xp d 0 g ()) + ∑ d, OFam 9 xp d 0 g ())))
      + (∑ d, tallyAt (bar (xp d)) () 1 g ()) + (∑ d, tallyAt (bar (cross d)) () 1 g ()) + ∑ d, tallyAt (bar (pair d)) () 1 g () := by
  unfold O₀ OO
  simp only [Pi.add_apply, Finsupp.add_apply, Finset.sum_add_distrib]

theorem owed_bar (c : Dev nD) : ∑ d : Dev nD, O₀ d (bar c) () = 3 := by
  rw [owed_sum]
  simp only [sum_OFam_bar, sum_bar xp_xp, sum_bar cross_cross, sum_bar pair_pair]

/-- The arrays of the landings. -/
def odd (j : Fin 5) : Fin 10 := ⟨2 * j.val + 1, by omega⟩
theorem owed_cl (j : Fin 5) (s : Fin 4) (c : Dev nD) : ∑ d : Dev nD, O₀ d (cl (odd j) s c) () = N := by
  rw [owed_sum]
  simp only [sum_OFam xp_xp, sum_OFam cross_cross, sum_OFam pair_pair, sum_bar_cl]
  fin_cases j <;> rfl

theorem launch_cell (c : Dev nD) (q : SemLoc sig) (n : ℕ) (h : ∑ d : Dev nD, O₀ d ((c : Thread nD τ), q) () = n) :
    tallyOn ((c : Thread nD τ), q) (launchCredit (Pipeline.owing O₀) 0 ((c : Thread nD τ), q)) = (tallyAt ((c : Thread nD τ), q) () n : CellTallies nD τ sig Unit) := by
  unfold tallyAt; refine congrArg _ (Finsupp.ext fun u => ?_); cases u
  rw [Pipeline.launchCredit_owing, Finsupp.single_eq_same, h]

theorem creds_intro (c : Dev nD) : (Pipeline.launchCred O₀ c : sProp 𝕄) ⊢ creds c := by
  have hj : Function.Injective (fun js : Fin 5 × Fin 4 => SemLoc.dma (sig := sig) (sm (odd js.1) js.2)) := by
    rintro ⟨j, s⟩ ⟨j', s'⟩ h
    obtain ⟨h1, rfl⟩ := sm_inj (SemLoc.dma.inj h)
    have h2 : 2 * j.val + 1 = 2 * j'.val + 1 := congrArg Fin.val h1
    obtain rfl : j = j' := Fin.ext (by omega)
    rfl
  have hs : (Finset.univ.map ⟨_, hj⟩ : Finset (SemLoc sig)) ⊆ Finset.univ.erase (.reg barrier0) := fun q hq => by
    obtain ⟨js, -, rfl⟩ := Finset.mem_map.mp hq
    exact Finset.mem_erase.mpr ⟨fun h => (by cases h), Finset.mem_univ _⟩
  have h5 (Φ : Fin 5 → sProp 𝕄) : bigSep Finset.univ Φ = iprop(Φ 0 ∗ Φ 1 ∗ Φ 2 ∗ Φ 3 ∗ Φ 4) := bigSep_univ_eq_bigSepL [(0 : Fin 5), 1, 2, 3, 4] (by decide) (by decide) Φ
  unfold Pipeline.launchCred creds
  rw [bigSep_univ_at _ (SemLoc.reg barrier0), launch_cell c _ 3 (owed_bar c)]
  refine sep_mono_right ((bigSep_subset hs).trans ?_)
  rw [bigSep_map, bigSep_univ_prod, h5]
  have hr (j : Fin 5) : (bigSep Finset.univ fun s : Fin 4 => cred (tallyOn ((c : Thread nD τ), SemLoc.dma (sm (odd j) s)) (launchCredit (Pipeline.owing O₀) 0 ((c : Thread nD τ), SemLoc.dma (sm (odd j) s)))) : sProp 𝕄)
      = all fun s => Crd (odd j) s c := bigSep_congr fun s _ => by rw [launch_cell c _ N (owed_cl j s c)]
  exact BI.sep_mono (Entails.of_eq (hr 0)) (BI.sep_mono (Entails.of_eq (hr 1)) (BI.sep_mono (Entails.of_eq (hr 2)) (BI.sep_mono (Entails.of_eq (hr 3)) (Entails.of_eq (hr 4)))))

end Cert.KernelIdeal.Hand

end
-- ==== Proof.KernelIdealLaunch.lean ====
/- The run of @main: from the launch through the body to the result on every device. -/
module

public import proofs.«01_k».proof.Proof.KernelIdealBody
public import proofs.«01_k».proof.Proof.KernelIdealGhost
public import Idealize.ShloMosaic.Lib.Pipeline.CollectiveSegs

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- Any memory, counters at zero. -/
def s₀ : MemSt nD τ sig (Elt F) := ⟨m, fun _ => 0, ρ⟩

/-- What a device holds besides its buffers when the kernel starts. -/
def start (c : Dev nD) : sProp 𝕄 := iprop((∃ K, Recs m K ∗ lin (F := F) c) ∗ creds (F := F) c)
def Φ₀ (c : Dev nD) : sProp 𝕄 := iprop(start m c ∗ scr (F := F) c)
def Φ₁ (c : Dev nD) : sProp 𝕄 := iprop(sems (F := F) c ∗ semVal (bar c) 0 ∗ scr (F := F) c)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => OUT m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body at the pipeline's one point -/

/-- A staging buffer with given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def obPre (c : Dev nD) : sProp 𝕄 :=
  iprop(Φ₀ m c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
def obPost (c : Dev nD) : sProp 𝕄 :=
  iprop(Φ₁ (F := F) c ∗ (dats m 0 c).owesAt () t0_0.succ ∗ stg c cc0_stg0_0 (xstg m c) ∗ stg c cc0_stg1_0 (OUT m c))

/-- The argument is staged when the body starts. -/
theorem before_arg (c : Dev nD) (d) : (dats m 0 c).before (0 : Fin 2) t0_0 d = xstg m c := by
  unfold Dat.before; rw [if_pos (fetch0_0 t0_0)]; rfl

theorem obPre_elim (c : Dev nD) : obPre m c ⊢ iprop(∃ K, pre m K c) := by
  unfold obPre Φ₀ start Dat.owesAt Pipeline.owesWithin
  iintro ⟨⟨⟨⟨%K, #HR, HL⟩, HC⟩, HS⟩, ⟨%W, -, HO⟩, ⟨%d, %f, %hf, Hx⟩, ⟨%d', %g, -, Hout⟩⟩
  subst hf
  iexists K
  unfold pre
  isplitr; · iexact HR
  isplitl [HL]; · iexact HL
  isplitl [HC]; · iexact HC
  isplitl [HS]; · iexact HS
  isplitl [HO]; · unfold ow; iexists W; iexact HO
  isplitl [Hx]; · rw [before_arg m c d]; iexact Hx
  iexists g; iexact Hout

theorem obPost_intro (c : Dev nD) : post m c ⊢ obPost m c := by
  unfold obPost Φ₁ post ow Dat.owesAt Pipeline.owesWithin
  iintro ⟨Hs, Hb, HS, ⟨%W, HO⟩, Hx, Hout⟩
  isplitl [Hs Hb HS]
  · isplitl [Hs]; · iexact Hs
    isplitl [Hb] <;> iassumption
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

theorem body_obligation (c : Dev nD) : BodyObligation (dats m 0 c) (defs₀ (F := F)) 𝒱₀ () Set.univ := fun t => by
  rw [fin_N0 t]
  rw [show (Finset.univ : Finset (Fin cfg0.W)) = (Finset.univ : Finset (Fin 2)) from rfl, bigSep_W0, bigSep_W0]
  simp only [owns_whole]
  show obPre m c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 cc0_scratch8 cc0_scratch9 cc0_scratch10 cc0_scratch11 cc0_scratch12 cc0_scratch13) (fun _ => obPost m c)
  iintro H
  ihave H := (obPre_elim m c) $$ H
  icases H with ⟨%K, H⟩
  iapply (sound_body m K c fun _ => obPost m c)
  isplitl [H]; · iexact H
  iintro H
  iapply (obPost_intro m c); iexact H

/-! ## The launch -/

theorem ownSemFacts : Pipeline.OwnSemFacts cfg0.spec osem := by decide
theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' recs₀
  iintro ⟨-, HL, HC, -, ⟨%K, ⟨HI, Hr⟩, Hlin⟩⟩
  ihave HC := (creds_intro (F := F) c) $$ HC
  imodintro
  unfold start Recs
  isplitl
  · isplitl [HL HI Hr Hlin]
    · iexists K
      isplitl [HL HI Hr]
      · isplitl [HI]; · iexact HI
        isplitl [Hr] <;> iassumption
      iexact Hlin
    iexact HC
  · iempintro

theorem enter (c : Dev nD) :
    iprop(start m c ∗ Pipeline.prefHeld Pipeline.Prefetch.none c (fun _ => fullShare.right) (fun k => k.elim0) ∗ Pipeline.scopedRest cfg0.spec c) ⊢ (dats m 0 c).Φ 0 := by
  rw [show (dats m 0 c).Φ 0 = Φ₀ m c from rfl, scopedRest0_eq]
  unfold Φ₀ scr
  iintro ⟨Hs, -, Hr⟩
  isplitl [Hs] <;> iassumption

theorem leave (c : Dev nD) : (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scr
  iintro ⟨Hs, Hb, Hr⟩
  isplitl [Hb]; · iexact Hb
  isplitl [Hs] <;> iassumption

/-- The pipeline's own waits are on cells below all that is owed. -/
theorem owed_above (c : Dev nD) : Above 0 (O₀ c) := by
  have hb (c' : Dev nD) : Above 0 (tallyAt (bar c') () 1) := Above.tally c' (.reg barrier0) 1 Nat.one_pos
  unfold O₀ OO
  exact ((((OFam_above _ _ _ _ _ (by decide)).add ((OFam_above _ _ _ _ _ (by decide)).add ((OFam_above _ _ _ _ _ (by decide)).add
    ((OFam_above _ _ _ _ _ (by decide)).add (OFam_above _ _ _ _ _ (by decide)))))).add (hb _)).add (hb _)).add (hb _)

theorem stage_level : ∀ (w : Fin 2) (s), lvq ((cfg0.win w).sem s) ≤ 0 := by decide

theorem waits (c : Dev nD) : (levAts L lv : sProp 𝕄) ⊢ Pipeline.cellsWaits cfgs (dats m) () 0 c :=
  Pipeline.cellsWaits_intro cfgs (dats m) () 0 c fun w s t => mayWait c (.dma ((cfg0.win w).sem s)) 0 (stage_level w s) (by
    rcases t with ⟨_ | _, ht⟩
    · exact owed_above c
    · exact Above.zero 0)

/-! ## The run -/

/-- What an array holds at the end. -/
def finalA (c : Dev nD) (w : Fin cfg0.W) : Buf (Elt F) ((cfg0.win w).arr.view.loc (c : Thread nD τ)) := (dats m 0 c).arrAt w cfg0.N

theorem run_main : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The result's one block read back is what the body left in the staging buffer. -/
theorem final_block (c : Dev nD) : (win0_1.blk (0 : Fin 1)).view.read (Elt F) (finalA m c (1 : Fin 2)) = OUT m c := by
  unfold finalA
  rw [show cfg0.N = ((0 : Fin 1) : Fin cfg0.N).val + 1 from rfl, (dats m 0 c).arrAt_succ (1 : Fin 2) (0 : Fin 1)]
  rw [show (cfg0.win (1 : Fin 2)).flush (0 : Fin 1) = true from flush0_1 _, if_pos rfl]
  exact View.read_write_univ _ _

/-- The result's one block is the whole array. -/
theorem final_out (c : Dev nD) : finalA m c (1 : Fin 2) = OUT m c := by
  have hz : (fun a => win0_1.index (0 : Fin 1) a * main_v1.ty.shape.size a) = fun _ => 0 := funext fun a => by fin_cases a <;> decide
  exact (Memref.read_access_unit_zero (Elt F) main_v1 hz (fun a => by fin_cases a <;> decide) _).symm.trans (final_block m c)

/-- The argument's one block is the whole array. -/
theorem xstg_eq (c : Dev nD) : xstg m c = m ((c : Thread nD τ).loc main_arg0) := by
  have hz : (fun a => win0_0.index (0 : Fin 1) a * main_arg0.ty.shape.size a) = fun _ => 0 := funext fun a => by fin_cases a <;> decide
  exact Memref.read_access_unit_zero (Elt F) main_arg0 hz (fun a => by fin_cases a <;> decide) _

/-- The argument is unchanged. -/
theorem final_arg (c : Dev nD) : finalA m c (0 : Fin 2) = m ((c : Thread nD τ).loc main_arg0) :=
  (dats m 0 c).arrAt_in (0 : Fin 2) rfl _

end Cert.KernelIdeal.Hand

end
-- ==== Proof.Value.lean ====
/- The value: on extended reals every device ends with the sum, over the four y, of the blocks of the argument.

   A row of the result is computed by one device of the group that shares `c`'s high bit of y
   and its z. It adds its own row, its pair's, and the same two rows of the devices at the other
   high bit: the four devices' y run through 0, 1, 2, 3, so the sum is the reference's. -/
module

public import proofs.«01_k».proof.Proof.KernelIdealLaunch
public import proofs.«01_k».proof.Proof.Gen.ReferenceIdeal.Run
public import Idealize.ShloMosaic.Lib.Layout
public import Idealize.ShloMosaic.Lib.Pointwise.Reduce
public import Idealize.ShloMosaic.PureOps.Ideal.Laws

@[expose] public section

set_option maxRecDepth 16384

noncomputable section

namespace Cert.KernelIdeal.Hand

open Cert.KernelIdeal Cert.KernelIdeal.Gen
open Idealize.ShloMosaic Idealize.ShloMosaic.TcCoe

/-- A whole argument: four blocks of 1024 rows, one for each y. -/
abbrev Whole := (⟨2, ![4096, 512]⟩ : Shape).Idx → EReal

/-- The place of a device along the axis the argument is cut along. -/
def yOf (c : Dev nD) : ℕ := c.val / 4 % 4

theorem yOf_lt (c : Dev nD) : yOf c < 4 := Nat.mod_lt _ (by decide)
theorem yOf_pair : ∀ c, yOf (pair c) = yOf c ^^^ 1 := by decide +kernel
theorem yOf_cross : ∀ c, yOf (cross c) = yOf c ^^^ 2 := by decide +kernel
theorem meshLin_y : ∀ c : Dev nD, Layout.meshLin [2, 4, 4] c.val [1] = yOf c := by decide +kernel

theorem half_owner : ∀ (c : Dev nD) (t : Fin 16), half (owner c t.val) = t.val / 8 := by decide +kernel
theorem part_owner : ∀ (c : Dev nD) (t : Fin 16), part (owner c t.val) = t.val / 4 % 2 := by decide +kernel

/-- Starting at any of the four, changing the low bit, the high bit, and both, meets all four. -/
theorem sum_four (f : ℕ → EReal) (a : ℕ) (ha : a < 4) :
    f a + f (a ^^^ 1) + (f (a ^^^ 2) + f (a ^^^ 2 ^^^ 1)) = ∑ k : Fin 4, f k.val := by
  rw [Fin.sum_univ_four]
  interval_cases a
  · show f 0 + f 1 + (f 2 + f 3) = f 0 + f 1 + f 2 + f 3
    ac_rfl
  · show f 1 + f 0 + (f 3 + f 2) = f 0 + f 1 + f 2 + f 3
    ac_rfl
  · show f 2 + f 3 + (f 0 + f 1) = f 0 + f 1 + f 2 + f 3
    ac_rfl
  · show f 3 + f 2 + (f 1 + f 0) = f 0 + f 1 + f 2 + f 3
    ac_rfl

/-- Each device's argument is the block of the whole argument at the device's y. -/
def Blocks (m : (ℓ : Loc nD τ sig) → Buf (Elt Ideal) ℓ) (V : Whole) : Prop :=
  ∀ c : Dev nD, m ((c : Thread nD τ).loc main_arg0) = Layout.blockN ⟨2, ![1024, 512]⟩ ⟨2, ![4096, 512]⟩ (Layout.meshBlock [2, 4, 4] ![[1], []] c) V

variable (m : (ℓ : Loc nD τ sig) → Buf (Elt Ideal) ℓ) (V : Whole) (hV : Blocks m V)

include hV in
/-- Row `r` of device `c`'s argument is row `r` of block `yOf c` of the whole. -/
theorem arg_at (c : Dev nD) (r : ℕ) (hr : r < 1024) (j : Fin 512) : xstg m c (ix 1024 r j) = V (ix 4096 (1024 * yOf c + r) j) := by
  rw [xstg_eq, hV c, Layout.blockN_apply]
  have hy := yOf_lt c
  refine congrArg V (idx_ext ?_ (Fin.ext ?_))
  · show Layout.meshLin [2, 4, 4] c.val [1] * 1024 + r % 1024 = (1024 * yOf c + r) % 4096
    rw [meshLin_y]; omega
  · show 0 * 512 + j.val = j.val
    omega

/-- On extended reals the rounded sum is the sum. -/
theorem padd_at {s : Shape} (a b : FVec Ideal s .bf16) (i : s.Idx) : (padd a b i : EReal) = (a i : EReal) + (b i : EReal) := rfl

include hV in
/-- The rows a device adds in its part: its own and its pair's. -/
theorem part_at (o : Dev nD) (r : ℕ) (hr : r < 1024) (hh : half o = r / 512) (hp : part o = r / 256 % 2) (j : Fin 512) :
    (PS m o (ix 256 r j) : EReal) = V (ix 4096 (1024 * yOf o + r) j) + V (ix 4096 (1024 * (yOf o ^^^ 1) + r) j) := by
  have hrow (d : Dev nD) (hd : half d = r / 512) : XB m d (ix 512 (256 * part o + row (ix 256 r j)) j) = V (ix 4096 (1024 * yOf d + r) j) := by
    rw [← arg_at m V hV d r hr j]
    refine congrArg (xstg m d) (idx_ext ?_ rfl)
    show (512 * half d + (256 * part o + r % 256) % 512) % 1024 = r % 1024
    omega
  unfold PS
  rw [padd_at]
  refine congrArg₂ _ (hrow o hh) ?_
  rw [← yOf_pair]
  exact hrow (pair o) ((half_pair o).trans hh)

include hV in
/-- The result on every device: the sum of the four blocks, row by row. -/
theorem out_at (c : Dev nD) (i : S1024x512.Idx) : (OUT m c i : EReal) = ∑ k : Fin 4, V (ix 4096 (1024 * k.val + row i) (col i)) := by
  have hr : row i < 1024 := row_lt i
  have hh := half_owner c ⟨row i / 64, by omega⟩
  have hp := part_owner c ⟨row i / 64, by omega⟩
  have hh' : half (owner c (row i / 64)) = row i / 512 := hh.trans (by show row i / 64 / 8 = _; omega)
  have hp' : part (owner c (row i / 64)) = row i / 256 % 2 := hp.trans (by show row i / 64 / 4 % 2 = _; omega)
  unfold OUT FN
  rw [padd_at, part_at m V hV _ (row i) hr hh' hp', part_at m V hV _ (row i) hr ((half_cross _).trans hh') ((part_cross _).trans hp'), yOf_cross]
  exact sum_four (fun k => V (ix 4096 (1024 * k + row i) (col i))) _ (yOf_lt _)

/-! ## The reference's value -/

/-- What the reference computes of a whole argument. -/
def refOut : Vec Ideal S1024x512 .bf16 :=
  truncf (F := Ideal) .bf16 (Host.reduceAdd (F := Ideal) (φ := .f32) (extf (F := Ideal) .f32 (shapeCast _ (V : FVec Ideal ReferenceIdeal.S4096x512 .bf16) ReferenceIdeal.Gen.shapeCasts_S4096x512_S4x1024x512) ReferenceIdeal.Gen.bitsLt_bf16_f32)
    (constant (F := Ideal) ReferenceIdeal.S_ .f32 0x00000000#32) ReferenceIdeal.Gen.reducesTo_S4x1024x512_S1024x512_d0 ReferenceIdeal.Gen.h_S_) ReferenceIdeal.Gen.bitsLt_bf16_f32

theorem refOut_at (i : S1024x512.Idx) : (refOut V i : EReal) = ∑ k : Fin 4, V (ix 4096 (1024 * k.val + row i) (col i)) := by
  have hr : row i < 1024 := row_lt i
  show Ideal.hostReduceAdd _ _ (Ideal.ofBits .f32 0x00000000#32) i = _
  rw [Ideal.hostReduceAdd_r3_a0, Ideal.ofBits_zero_f32, zero_add]
  refine Finset.sum_congr rfl fun k _ => ?_
  refine shapeCast_apply _ _ _ _ ?_
  rw [Shape.rowMajor_val_two, Shape.rowMajor_val_three]
  show (1024 * k.val + row i) % 4096 * 512 + (col i).val = (k.val * 1024 + row i) * 512 + (col i).val
  have := k.isLt
  omega

include hV in
/-- The two results agree. -/
theorem out_eq (c : Dev nD) : OUT m c = refOut V :=
  funext fun i => (out_at m V hV c i).trans (refOut_at V i).symm

end Cert.KernelIdeal.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelLaunch
public import proofs.«01_k».proof.Proof.Value
public import Idealize.ShloMosaic.Adequacy
public import Idealize.ShloMosaic.Init
public import Idealize.ShloMosaic.Lib.Quiescent

@[expose] public section

noncomputable section

namespace Cert.Proof

open Idealize.ShloMosaic Idealize.SL.Sem

/-- The kernel, at machine floats. -/
theorem frame_kernel : Cert.quiescent_Kernel := fun m ρ _ =>
  (θ_run Cert.Kernel.defs _ _).mono (fun _ h => ⟨fun c => (h.1 c (0 : Fin 2)).trans (Cert.Kernel.Hand.final_arg m c), h.2⟩)
    (Cert.Kernel.Hand.run_main (F := Bits) m ρ)

/-- The kernel, on extended reals. -/
theorem frame_kernel_ideal : Cert.quiescent_KernelIdeal := fun m ρ _ =>
  (θ_run Cert.KernelIdeal.defs _ _).mono (fun _ h => ⟨fun c => (h.1 c (0 : Fin 2)).trans (Cert.KernelIdeal.Hand.final_arg m c), h.2⟩)
    (Cert.KernelIdeal.Hand.run_main (F := Ideal) m ρ)

/-- The reference, on extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's. -/
theorem algebraic : Cert.algebraic_KernelIdeal_ReferenceIdeal := fun m ρ m' ρ' _ hV =>
  ⟨Cert.KernelIdeal.Hand.refOut (m' (((0 : Dev Cert.ReferenceIdeal.nD).tc : Thread _ Cert.ReferenceIdeal.τ).loc Cert.ReferenceIdeal.main_arg0)),
    (θ_run Cert.KernelIdeal.defs _ _).mono
      (fun _ h c => ⟨((h.1 c (1 : Fin 2)).trans (Cert.KernelIdeal.Hand.final_out m c)).trans (Cert.KernelIdeal.Hand.out_eq m _ hV c),
        (h.1 c (0 : Fin 2)).trans (Cert.KernelIdeal.Hand.final_arg m c)⟩)
      (Cert.KernelIdeal.Hand.run_main (F := Ideal) m ρ),
    (θ_run Cert.ReferenceIdeal.defs _ _).mono (fun _ h => ⟨(h 0).1, (h 0).2⟩) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernel_ideal, frame_reference, trivial, algebraic⟩

end Cert.Proof

end
